-- ==== Defs.lean ====
def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2))
      ∧ r.2.sem = fun _ => 0)

def preserves_OProj_OProjIdeal : Prop :=
  IdealRules.bf16_pair.BufferStatement Cert.OProjIdeal.S32x2x512 Cert.OProjIdeal.S32x1x512
  ∧ IdealRules.bf16_pair.PackStatement Cert.OProjIdeal.S32x512
  ∧ IdealRules.bf16_pair.Statement Cert.OProjIdeal.S32x2x512 Cert.OProjIdeal.S32x1x512
  ∧ IdealRules.bf16_pair.Statement Cert.OProjIdeal.S1x2x512 Cert.OProjIdeal.S1x1x512
  ∧ IdealRules.bf16_pair.Statement Cert.OProjIdeal.S2x512 Cert.OProjIdeal.S1x512

def preserves_Down_DownIdeal : Prop :=
  IdealRules.bf16_pair.BufferStatement Cert.DownIdeal.S112x2x512 Cert.DownIdeal.S112x1x512
  ∧ IdealRules.bf16_pair.PackStatement Cert.DownIdeal.S112x512
  ∧ IdealRules.bf16_pair.Statement Cert.DownIdeal.S112x2x512 Cert.DownIdeal.S112x1x512
  ∧ IdealRules.bf16_pair.Statement Cert.DownIdeal.S1x2x512 Cert.DownIdeal.S1x1x512
  ∧ IdealRules.bf16_pair.Statement Cert.DownIdeal.S2x512 Cert.DownIdeal.S1x512

def preserves_GateUp_GateUpIdeal : Prop :=
  IdealRules.bf16_pair.BufferStatement Cert.GateUpIdeal.S32x2x512 Cert.GateUpIdeal.S32x1x512
  ∧ IdealRules.bf16_pair.PackStatement Cert.GateUpIdeal.S32x512
  ∧ IdealRules.bf16_pair.Statement Cert.GateUpIdeal.S32x2x512 Cert.GateUpIdeal.S32x1x512
  ∧ IdealRules.bf16_pair.Statement Cert.GateUpIdeal.S1x2x512 Cert.GateUpIdeal.S1x1x512
  ∧ IdealRules.bf16_pair.Statement Cert.GateUpIdeal.S2x512 Cert.GateUpIdeal.S1x512

def preserves_Qkv_QkvIdeal : Prop :=
  IdealRules.bf16_pair.BufferStatement Cert.QkvIdeal.S64x2x512 Cert.QkvIdeal.S64x1x512
  ∧ IdealRules.bf16_pair.PackStatement Cert.QkvIdeal.S64x512
  ∧ IdealRules.bf16_pair.Statement Cert.QkvIdeal.S64x2x512 Cert.QkvIdeal.S64x1x512
  ∧ IdealRules.bf16_pair.Statement Cert.QkvIdeal.S1x2x512 Cert.QkvIdeal.S1x1x512
  ∧ IdealRules.bf16_pair.Statement Cert.QkvIdeal.S2x512 Cert.QkvIdeal.S1x512

def preserves_Head_HeadIdeal : Prop :=
  True

def preserves_NormQ_NormQIdeal : Prop :=
  True

def preserves_Fc_FcIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v28) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4))

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)) →
    ∃ (v0 : (c : Dev Cert.GateUpIdeal.nD) → Buf (Elt Ideal) ((c.tc : Thread Cert.GateUpIdeal.nD Cert.GateUpIdeal.τ).loc Cert.GateUpIdeal.main_v1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v72) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7))

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v55) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v2)) (v1 : (c : Dev Cert.HeadIdeal.nD) → Buf (Elt Ideal) ((c.tc : Thread Cert.HeadIdeal.nD Cert.HeadIdeal.τ).loc Cert.HeadIdeal.main_v1_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2) = v0 c
          ∧ r.2.mem ((c.tc : Thread Cert.HeadIdeal.nD Cert.HeadIdeal.τ).loc Cert.HeadIdeal.main_v1_1) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v1_0) = v0 c
          ∧ r.2.mem ((c.tc : Thread Cert.HeadRefIdeal.nD Cert.HeadRefIdeal.τ).loc Cert.HeadRefIdeal.main_v1_1) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v1_0)) (v1 : (c : Dev Cert.NormQIdeal.nD) → Buf (Elt Ideal) ((c.tc : Thread Cert.NormQIdeal.nD Cert.NormQIdeal.τ).loc Cert.NormQIdeal.main_v1_1)) (v2 : (c : Dev Cert.NormQIdeal.nD) → Buf (Elt Ideal) ((c.tc : Thread Cert.NormQIdeal.nD Cert.NormQIdeal.τ).loc Cert.NormQIdeal.main_v1_2)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1_0) = v0 c
          ∧ r.2.mem ((c.tc : Thread Cert.NormQIdeal.nD Cert.NormQIdeal.τ).loc Cert.NormQIdeal.main_v1_1) = v1 c
          ∧ r.2.mem ((c.tc : Thread Cert.NormQIdeal.nD Cert.NormQIdeal.τ).loc Cert.NormQIdeal.main_v1_2) = v2 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v27) = v0 c
          ∧ r.2.mem ((c.tc : Thread Cert.NormQRefIdeal.nD Cert.NormQRefIdeal.τ).loc Cert.NormQRefIdeal.main_v26) = v1 c
          ∧ r.2.mem ((c.tc : Thread Cert.NormQRefIdeal.nD Cert.NormQRefIdeal.τ).loc Cert.NormQRefIdeal.main_v28) = v2 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1))

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)) →
    ∃ (v0 : (c : Dev Cert.FcIdeal.nD) → Buf (Elt Ideal) ((c.tc : Thread Cert.FcIdeal.nD Cert.FcIdeal.τ).loc Cert.FcIdeal.main_v1_0)) (v1 : (c : Dev Cert.FcIdeal.nD) → Buf (Elt Ideal) ((c.tc : Thread Cert.FcIdeal.nD Cert.FcIdeal.τ).loc Cert.FcIdeal.main_v1_1)) (v2 : (c : Dev Cert.FcIdeal.nD) → Buf (Elt Ideal) ((c.tc : Thread Cert.FcIdeal.nD Cert.FcIdeal.τ).loc Cert.FcIdeal.main_v1_2)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v1_0) = v0 c
          ∧ r.2.mem ((c.tc : Thread Cert.FcIdeal.nD Cert.FcIdeal.τ).loc Cert.FcIdeal.main_v1_1) = v1 c
          ∧ r.2.mem ((c.tc : Thread Cert.FcIdeal.nD Cert.FcIdeal.τ).loc Cert.FcIdeal.main_v1_2) = v2 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v1_0) = v0 c
          ∧ r.2.mem ((c.tc : Thread Cert.FcRefIdeal.nD Cert.FcRefIdeal.τ).loc Cert.FcRefIdeal.main_v1_1) = v1 c
          ∧ r.2.mem ((c.tc : Thread Cert.FcRefIdeal.nD Cert.FcRefIdeal.τ).loc Cert.FcRefIdeal.main_v1_2) = v2 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2))

def Claim : Prop :=
  ∃ (hOProj : Cert.OProj.Facts) (hOProjIdeal : Cert.OProjIdeal.Facts) (hOProjRefIdeal : Cert.OProjRefIdeal.Facts) (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hQkv : Cert.Qkv.Facts) (hQkvIdeal : Cert.QkvIdeal.Facts) (hQkvRefIdeal : Cert.QkvRefIdeal.Facts) (hHead : Cert.Head.Facts) (hHeadIdeal : Cert.HeadIdeal.Facts) (hHeadRefIdeal : Cert.HeadRefIdeal.Facts) (hNormQ : Cert.NormQ.Facts) (hNormQIdeal : Cert.NormQIdeal.Facts) (hNormQRefIdeal : Cert.NormQRefIdeal.Facts) (hFc : Cert.Fc.Facts) (hFcIdeal : Cert.FcIdeal.Facts) (hFcRefIdeal : Cert.FcRefIdeal.Facts),
    quiescent_OProj (hOProj := hOProj)
    ∧ quiescent_OProjIdeal (hOProjIdeal := hOProjIdeal)
    ∧ quiescent_OProjRefIdeal (hOProjRefIdeal := hOProjRefIdeal)
    ∧ quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Head (hHead := hHead)
    ∧ quiescent_HeadIdeal (hHeadIdeal := hHeadIdeal)
    ∧ quiescent_HeadRefIdeal (hHeadRefIdeal := hHeadRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_Fc (hFc := hFc)
    ∧ quiescent_FcIdeal (hFcIdeal := hFcIdeal)
    ∧ quiescent_FcRefIdeal (hFcRefIdeal := hFcRefIdeal)
    ∧ preserves_OProj_OProjIdeal
    ∧ preserves_Down_DownIdeal
    ∧ preserves_GateUp_GateUpIdeal
    ∧ preserves_Qkv_QkvIdeal
    ∧ preserves_Head_HeadIdeal
    ∧ preserves_NormQ_NormQIdeal
    ∧ preserves_Fc_FcIdeal
    ∧ algebraic_OProjIdeal_OProjRefIdeal (hOProjIdeal := hOProjIdeal) (hOProjRefIdeal := hOProjRefIdeal)
    ∧ algebraic_DownIdeal_DownRefIdeal (hDownIdeal := hDownIdeal) (hDownRefIdeal := hDownRefIdeal)
    ∧ algebraic_GateUpIdeal_GateUpRefIdeal (hGateUpIdeal := hGateUpIdeal) (hGateUpRefIdeal := hGateUpRefIdeal)
    ∧ algebraic_QkvIdeal_QkvRefIdeal (hQkvIdeal := hQkvIdeal) (hQkvRefIdeal := hQkvRefIdeal)
    ∧ algebraic_HeadIdeal_HeadRefIdeal (hHeadIdeal := hHeadIdeal) (hHeadRefIdeal := hHeadRefIdeal)
    ∧ algebraic_NormQIdeal_NormQRefIdeal (hNormQIdeal := hNormQIdeal) (hNormQRefIdeal := hNormQRefIdeal)
    ∧ algebraic_FcIdeal_FcRefIdeal (hFcIdeal := hFcIdeal) (hFcRefIdeal := hFcRefIdeal)
-- ==== OProj.lean ====
abbrev S128x4096 : Shape := ⟨2, ![128, 4096]⟩
abbrev S2048x4096 : Shape := ⟨2, ![2048, 4096]⟩
abbrev S32x4096 : Shape := ⟨2, ![32, 4096]⟩
abbrev S2048x512 : Shape := ⟨2, ![2048, 512]⟩
abbrev S32x512 : Shape := ⟨2, ![32, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S2x512 : Shape := ⟨2, ![2, 512]⟩
abbrev S128x256 : Shape := ⟨2, ![128, 256]⟩

abbrev nBuf : Space → Nat
  | .hbm => 6
  | .vmem => 13
  | .smem => 0
  | _ => 0

abbrev bufTy : (tb : Table) → Fin (tcTables nBuf tb) → BufTy
  | .hbm, ⟨0, _⟩ => ⟨S128x4096, .bf16⟩
  | .hbm, ⟨1, _⟩ => ⟨S2048x4096, .i8⟩
  | .hbm, ⟨2, _⟩ => ⟨S32x4096, .bf16⟩
  | .hbm, ⟨3, _⟩ => ⟨S32x4096, .i8⟩
  | .hbm, ⟨4, _⟩ => ⟨S128x4096, .f32⟩
  | .hbm, ⟨5, _⟩ => ⟨S128x4096, .f32⟩
  | .local _ .vmem, ⟨0, _⟩ => ⟨S128x4096, .bf16⟩
  | .local _ .vmem, ⟨1, _⟩ => ⟨S2048x512, .i8⟩
  | .local _ .vmem, ⟨2, _⟩ => ⟨S2048x512, .i8⟩
  | .local _ .vmem, ⟨3, _⟩ => ⟨S32x512, .bf16⟩
  | .local _ .vmem, ⟨4, _⟩ => ⟨S32x512, .bf16⟩
  | .local _ .vmem, ⟨5, _⟩ => ⟨S32x512, .i8⟩
  | .local _ .vmem, ⟨6, _⟩ => ⟨S32x512, .i8⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S32x512, .i32⟩
  | .local _ .vmem, ⟨12, _⟩ => ⟨S32x512, .i32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OProjIdeal.lean ====
abbrev S32x2x512 : Shape := ⟨3, ![32, 2, 512]⟩
abbrev S32x1x512 : Shape := ⟨3, ![32, 1, 512]⟩
abbrev S1x2x512 : Shape := ⟨3, ![1, 2, 512]⟩
abbrev S1x1x512 : Shape := ⟨3, ![1, 1, 512]⟩
  | .local _ .vmem, ⟨11, _⟩ => ⟨S32x2x512, .bf16⟩
  | .local _ .vmem, ⟨12, _⟩ => ⟨S32x2x512, .bf16⟩
variable {F : FTy → Type} [FloatOps F]
-- ==== OProjRefIdeal.lean ====
abbrev S128x4096 : Shape := ⟨2, ![128, 4096]⟩
abbrev S2048x4096 : Shape := ⟨2, ![2048, 4096]⟩
abbrev S32x4096 : Shape := ⟨2, ![32, 4096]⟩
abbrev S32x1x4096 : Shape := ⟨3, ![32, 1, 4096]⟩
abbrev S128x2048 : Shape := ⟨2, ![128, 2048]⟩
abbrev S_ : Shape := ⟨0, ![]⟩
abbrev S32x64x4096 : Shape := ⟨3, ![32, 64, 4096]⟩

abbrev nBuf : Space → Nat
  | .hbm => 36
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2048x4096, .i8⟩
  | .hbm, ⟨2, _⟩ => ⟨S32x4096, .bf16⟩
  | .hbm, ⟨3, _⟩ => ⟨S32x4096, .i8⟩
  | .hbm, ⟨4, _⟩ => ⟨S128x4096, .f32⟩
  | .hbm, ⟨5, _⟩ => ⟨S32x4096, .i32⟩
  | .hbm, ⟨6, _⟩ => ⟨S32x4096, .bf16⟩
  | .hbm, ⟨7, _⟩ => ⟨S32x1x4096, .bf16⟩
  | .hbm, ⟨8, _⟩ => ⟨S32x1x4096, .bf16⟩
  | .hbm, ⟨9, _⟩ => ⟨S2048x4096, .i32⟩
  | .hbm, ⟨10, _⟩ => ⟨S128x2048, .bf16⟩
  | .hbm, ⟨11, _⟩ => ⟨S_, .i32⟩
  | .hbm, ⟨12, _⟩ => ⟨S2048x4096, .i32⟩
  | .hbm, ⟨13, _⟩ => ⟨S2048x4096, .i32⟩
  | .hbm, ⟨14, _⟩ => ⟨S2048x4096, .bf16⟩
  | .hbm, ⟨15, _⟩ => ⟨S32x64x4096, .bf16⟩
  | .hbm, ⟨16, _⟩ => ⟨S32x64x4096, .bf16⟩
  | .hbm, ⟨17, _⟩ => ⟨S32x64x4096, .bf16⟩
  | .hbm, ⟨18, _⟩ => ⟨S32x64x4096, .bf16⟩
  | .hbm, ⟨19, _⟩ => ⟨S32x64x4096, .bf16⟩
  | .hbm, ⟨20, _⟩ => ⟨S2048x4096, .bf16⟩
  | .hbm, ⟨21, _⟩ => ⟨S128x4096, .f32⟩
  | .hbm, ⟨22, _⟩ => ⟨S128x2048, .bf16⟩
  | .hbm, ⟨23, _⟩ => ⟨S_, .i32⟩
  | .hbm, ⟨24, _⟩ => ⟨S2048x4096, .i32⟩
  | .hbm, ⟨25, _⟩ => ⟨S2048x4096, .i32⟩
  | .hbm, ⟨26, _⟩ => ⟨S2048x4096, .bf16⟩
  | .hbm, ⟨27, _⟩ => ⟨S32x64x4096, .bf16⟩
  | .hbm, ⟨28, _⟩ => ⟨S32x64x4096, .bf16⟩
  | .hbm, ⟨29, _⟩ => ⟨S32x64x4096, .bf16⟩
  | .hbm, ⟨30, _⟩ => ⟨S32x64x4096, .bf16⟩
  | .hbm, ⟨31, _⟩ => ⟨S32x64x4096, .bf16⟩
  | .hbm, ⟨32, _⟩ => ⟨S2048x4096, .bf16⟩
  | .hbm, ⟨33, _⟩ => ⟨S128x4096, .f32⟩
  | .hbm, ⟨34, _⟩ => ⟨S128x4096, .f32⟩
  | .hbm, ⟨35, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Down.lean ====
abbrev S128x14336 : Shape := ⟨2, ![128, 14336]⟩
abbrev S7168x4096 : Shape := ⟨2, ![7168, 4096]⟩
abbrev S112x4096 : Shape := ⟨2, ![112, 4096]⟩
abbrev S128x4096 : Shape := ⟨2, ![128, 4096]⟩
abbrev S7168x512 : Shape := ⟨2, ![7168, 512]⟩
abbrev S112x512 : Shape := ⟨2, ![112, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S2x512 : Shape := ⟨2, ![2, 512]⟩
abbrev S128x256 : Shape := ⟨2, ![128, 256]⟩

abbrev nBuf : Space → Nat
  | .hbm => 6
  | .vmem => 13
  | .smem => 0
  | _ => 0

abbrev bufTy : (tb : Table) → Fin (tcTables nBuf tb) → BufTy
  | .hbm, ⟨0, _⟩ => ⟨S128x14336, .bf16⟩
  | .hbm, ⟨1, _⟩ => ⟨S7168x4096, .i8⟩
  | .hbm, ⟨2, _⟩ => ⟨S112x4096, .bf16⟩
  | .hbm, ⟨3, _⟩ => ⟨S112x4096, .i8⟩
  | .hbm, ⟨4, _⟩ => ⟨S128x4096, .f32⟩
  | .hbm, ⟨5, _⟩ => ⟨S128x4096, .f32⟩
  | .local _ .vmem, ⟨0, _⟩ => ⟨S128x14336, .bf16⟩
  | .local _ .vmem, ⟨1, _⟩ => ⟨S7168x512, .i8⟩
  | .local _ .vmem, ⟨2, _⟩ => ⟨S7168x512, .i8⟩
  | .local _ .vmem, ⟨3, _⟩ => ⟨S112x512, .bf16⟩
  | .local _ .vmem, ⟨4, _⟩ => ⟨S112x512, .bf16⟩
  | .local _ .vmem, ⟨5, _⟩ => ⟨S112x512, .i8⟩
  | .local _ .vmem, ⟨6, _⟩ => ⟨S112x512, .i8⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S112x512, .i32⟩
  | .local _ .vmem, ⟨12, _⟩ => ⟨S112x512, .i32⟩
  | _, _ => ⟨S128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownIdeal.lean ====
abbrev S112x2x512 : Shape := ⟨3, ![112, 2, 512]⟩
abbrev S112x1x512 : Shape := ⟨3, ![112, 1, 512]⟩
abbrev S1x2x512 : Shape := ⟨3, ![1, 2, 512]⟩
abbrev S1x1x512 : Shape := ⟨3, ![1, 1, 512]⟩
  | .local _ .vmem, ⟨11, _⟩ => ⟨S112x2x512, .bf16⟩
  | .local _ .vmem, ⟨12, _⟩ => ⟨S112x2x512, .bf16⟩
variable {F : FTy → Type} [FloatOps F]
-- ==== DownRefIdeal.lean ====
abbrev S128x14336 : Shape := ⟨2, ![128, 14336]⟩
abbrev S7168x4096 : Shape := ⟨2, ![7168, 4096]⟩
abbrev S112x4096 : Shape := ⟨2, ![112, 4096]⟩
abbrev S128x4096 : Shape := ⟨2, ![128, 4096]⟩
abbrev S112x1x4096 : Shape := ⟨3, ![112, 1, 4096]⟩
abbrev S128x7168 : Shape := ⟨2, ![128, 7168]⟩
abbrev S_ : Shape := ⟨0, ![]⟩
abbrev S112x64x4096 : Shape := ⟨3, ![112, 64, 4096]⟩

abbrev nBuf : Space → Nat
  | .hbm => 36
  | .vmem => 0
  | .smem => 0
  | _ => 0

abbrev bufTy : (tb : Table) → Fin (tcTables nBuf tb) → BufTy
  | .hbm, ⟨0, _⟩ => ⟨S128x14336, .bf16⟩
  | .hbm, ⟨1, _⟩ => ⟨S7168x4096, .i8⟩
  | .hbm, ⟨2, _⟩ => ⟨S112x4096, .bf16⟩
  | .hbm, ⟨3, _⟩ => ⟨S112x4096, .i8⟩
  | .hbm, ⟨4, _⟩ => ⟨S128x4096, .f32⟩
  | .hbm, ⟨5, _⟩ => ⟨S112x4096, .i32⟩
  | .hbm, ⟨6, _⟩ => ⟨S112x4096, .bf16⟩
  | .hbm, ⟨7, _⟩ => ⟨S112x1x4096, .bf16⟩
  | .hbm, ⟨8, _⟩ => ⟨S112x1x4096, .bf16⟩
  | .hbm, ⟨9, _⟩ => ⟨S7168x4096, .i32⟩
  | .hbm, ⟨10, _⟩ => ⟨S128x7168, .bf16⟩
  | .hbm, ⟨11, _⟩ => ⟨S_, .i32⟩
  | .hbm, ⟨12, _⟩ => ⟨S7168x4096, .i32⟩
  | .hbm, ⟨13, _⟩ => ⟨S7168x4096, .i32⟩
  | .hbm, ⟨14, _⟩ => ⟨S7168x4096, .bf16⟩
  | .hbm, ⟨15, _⟩ => ⟨S112x64x4096, .bf16⟩
  | .hbm, ⟨16, _⟩ => ⟨S112x64x4096, .bf16⟩
  | .hbm, ⟨17, _⟩ => ⟨S112x64x4096, .bf16⟩
  | .hbm, ⟨18, _⟩ => ⟨S112x64x4096, .bf16⟩
  | .hbm, ⟨19, _⟩ => ⟨S112x64x4096, .bf16⟩
  | .hbm, ⟨20, _⟩ => ⟨S7168x4096, .bf16⟩
  | .hbm, ⟨21, _⟩ => ⟨S128x4096, .f32⟩
  | .hbm, ⟨22, _⟩ => ⟨S128x7168, .bf16⟩
  | .hbm, ⟨23, _⟩ => ⟨S_, .i32⟩
  | .hbm, ⟨24, _⟩ => ⟨S7168x4096, .i32⟩
  | .hbm, ⟨25, _⟩ => ⟨S7168x4096, .i32⟩
  | .hbm, ⟨26, _⟩ => ⟨S7168x4096, .bf16⟩
  | .hbm, ⟨27, _⟩ => ⟨S112x64x4096, .bf16⟩
  | .hbm, ⟨28, _⟩ => ⟨S112x64x4096, .bf16⟩
  | .hbm, ⟨29, _⟩ => ⟨S112x64x4096, .bf16⟩
  | .hbm, ⟨30, _⟩ => ⟨S112x64x4096, .bf16⟩
  | .hbm, ⟨31, _⟩ => ⟨S112x64x4096, .bf16⟩
  | .hbm, ⟨32, _⟩ => ⟨S7168x4096, .bf16⟩
  | .hbm, ⟨33, _⟩ => ⟨S128x4096, .f32⟩
  | .hbm, ⟨34, _⟩ => ⟨S128x4096, .f32⟩
  | .hbm, ⟨35, _⟩ => ⟨S128x4096, .f32⟩
  | _, _ => ⟨S128x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== GateUp.lean ====
abbrev S128x4096 : Shape := ⟨2, ![128, 4096]⟩
abbrev S4096 : Shape := ⟨1, ![4096]⟩
abbrev S2048x14336 : Shape := ⟨2, ![2048, 14336]⟩
abbrev S32x14336 : Shape := ⟨2, ![32, 14336]⟩
abbrev S1x4096 : Shape := ⟨2, ![1, 4096]⟩
abbrev S128x14336 : Shape := ⟨2, ![128, 14336]⟩
abbrev S2048x512 : Shape := ⟨2, ![2048, 512]⟩
abbrev S32x512 : Shape := ⟨2, ![32, 512]⟩
abbrev S128x512 : Shape := ⟨2, ![128, 512]⟩
abbrev S128 : Shape := ⟨1, ![128]⟩
abbrev S128x1 : Shape := ⟨2, ![128, 1]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S2x512 : Shape := ⟨2, ![2, 512]⟩
abbrev S128x256 : Shape := ⟨2, ![128, 256]⟩

abbrev nBuf : Space → Nat
  | .hbm => 10
  | .vmem => 19
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S2048x14336, .i8⟩
  | .hbm, ⟨3, _⟩ => ⟨S32x14336, .bf16⟩
  | .hbm, ⟨4, _⟩ => ⟨S32x14336, .i8⟩
  | .hbm, ⟨5, _⟩ => ⟨S2048x14336, .i8⟩
  | .hbm, ⟨6, _⟩ => ⟨S32x14336, .bf16⟩
  | .hbm, ⟨7, _⟩ => ⟨S32x14336, .i8⟩
  | .hbm, ⟨8, _⟩ => ⟨S1x4096, .f32⟩
  | .hbm, ⟨9, _⟩ => ⟨S128x14336, .bf16⟩
  | .local _ .vmem, ⟨0, _⟩ => ⟨S128x4096, .f32⟩
  | .local _ .vmem, ⟨1, _⟩ => ⟨S1x4096, .f32⟩
  | .local _ .vmem, ⟨2, _⟩ => ⟨S2048x512, .i8⟩
  | .local _ .vmem, ⟨3, _⟩ => ⟨S2048x512, .i8⟩
  | .local _ .vmem, ⟨4, _⟩ => ⟨S32x512, .bf16⟩
  | .local _ .vmem, ⟨5, _⟩ => ⟨S32x512, .bf16⟩
  | .local _ .vmem, ⟨6, _⟩ => ⟨S32x512, .i8⟩
  | .local _ .vmem, ⟨7, _⟩ => ⟨S32x512, .i8⟩
  | .local _ .vmem, ⟨8, _⟩ => ⟨S2048x512, .i8⟩
  | .local _ .vmem, ⟨9, _⟩ => ⟨S2048x512, .i8⟩
  | .local _ .vmem, ⟨10, _⟩ => ⟨S32x512, .bf16⟩
  | .local _ .vmem, ⟨11, _⟩ => ⟨S32x512, .bf16⟩
  | .local _ .vmem, ⟨12, _⟩ => ⟨S32x512, .i8⟩
  | .local _ .vmem, ⟨13, _⟩ => ⟨S32x512, .i8⟩
  | .local _ .vmem, ⟨14, _⟩ => ⟨S128x512, .bf16⟩
  | .local _ .vmem, ⟨15, _⟩ => ⟨S128x512, .bf16⟩
  | .local _ .vmem, ⟨16, _⟩ => ⟨S128x4096, .bf16⟩
  | .local _ .vmem, ⟨17, _⟩ => ⟨S32x512, .i32⟩
  | .local _ .vmem, ⟨18, _⟩ => ⟨S32x512, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateUpIdeal.lean ====
abbrev S32x2x512 : Shape := ⟨3, ![32, 2, 512]⟩
abbrev S32x1x512 : Shape := ⟨3, ![32, 1, 512]⟩
abbrev S1x2x512 : Shape := ⟨3, ![1, 2, 512]⟩
abbrev S1x1x512 : Shape := ⟨3, ![1, 1, 512]⟩
  | .local _ .vmem, ⟨17, _⟩ => ⟨S32x2x512, .bf16⟩
  | .local _ .vmem, ⟨18, _⟩ => ⟨S32x2x512, .bf16⟩
variable {F : FTy → Type} [FloatOps F]
-- ==== GateUpRefIdeal.lean ====
abbrev S128x4096 : Shape := ⟨2, ![128, 4096]⟩
abbrev S4096 : Shape := ⟨1, ![4096]⟩
abbrev S2048x14336 : Shape := ⟨2, ![2048, 14336]⟩
abbrev S32x14336 : Shape := ⟨2, ![32, 14336]⟩
abbrev S_ : Shape := ⟨0, ![]⟩
abbrev S128 : Shape := ⟨1, ![128]⟩
abbrev S128x1 : Shape := ⟨2, ![128, 1]⟩
abbrev S1x4096 : Shape := ⟨2, ![1, 4096]⟩
abbrev S32x1x14336 : Shape := ⟨3, ![32, 1, 14336]⟩
abbrev S128x2048 : Shape := ⟨2, ![128, 2048]⟩
abbrev S32x64x14336 : Shape := ⟨3, ![32, 64, 14336]⟩
abbrev S128x14336 : Shape := ⟨2, ![128, 14336]⟩

abbrev nBuf : Space → Nat
  | .hbm => 96
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S2048x14336, .i8⟩
  | .hbm, ⟨3, _⟩ => ⟨S32x14336, .bf16⟩
  | .hbm, ⟨4, _⟩ => ⟨S32x14336, .i8⟩
  | .hbm, ⟨5, _⟩ => ⟨S2048x14336, .i8⟩
  | .hbm, ⟨6, _⟩ => ⟨S32x14336, .bf16⟩
  | .hbm, ⟨7, _⟩ => ⟨S32x14336, .i8⟩
  | .hbm, ⟨8, _⟩ => ⟨S128x4096, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x4096, .f32⟩
  | .hbm, ⟨20, _⟩ => ⟨S128x4096, .f32⟩
  | .hbm, ⟨21, _⟩ => ⟨S1x4096, .f32⟩
  | .hbm, ⟨22, _⟩ => ⟨S128x4096, .f32⟩
  | .hbm, ⟨23, _⟩ => ⟨S128x4096, .f32⟩
  | .hbm, ⟨24, _⟩ => ⟨S128x4096, .bf16⟩
  | .hbm, ⟨25, _⟩ => ⟨S32x14336, .i32⟩
  | .hbm, ⟨26, _⟩ => ⟨S32x14336, .bf16⟩
  | .hbm, ⟨27, _⟩ => ⟨S32x1x14336, .bf16⟩
  | .hbm, ⟨28, _⟩ => ⟨S32x1x14336, .bf16⟩
  | .hbm, ⟨29, _⟩ => ⟨S2048x14336, .i32⟩
  | .hbm, ⟨30, _⟩ => ⟨S128x2048, .bf16⟩
  | .hbm, ⟨31, _⟩ => ⟨S_, .i32⟩
  | .hbm, ⟨32, _⟩ => ⟨S2048x14336, .i32⟩
  | .hbm, ⟨33, _⟩ => ⟨S2048x14336, .i32⟩
  | .hbm, ⟨34, _⟩ => ⟨S2048x14336, .bf16⟩
  | .hbm, ⟨35, _⟩ => ⟨S32x64x14336, .bf16⟩
  | .hbm, ⟨36, _⟩ => ⟨S32x64x14336, .bf16⟩
  | .hbm, ⟨37, _⟩ => ⟨S32x64x14336, .bf16⟩
  | .hbm, ⟨38, _⟩ => ⟨S32x64x14336, .bf16⟩
  | .hbm, ⟨39, _⟩ => ⟨S32x64x14336, .bf16⟩
  | .hbm, ⟨40, _⟩ => ⟨S2048x14336, .bf16⟩
  | .hbm, ⟨41, _⟩ => ⟨S128x14336, .f32⟩
  | .hbm, ⟨42, _⟩ => ⟨S128x2048, .bf16⟩
  | .hbm, ⟨43, _⟩ => ⟨S_, .i32⟩
  | .hbm, ⟨44, _⟩ => ⟨S2048x14336, .i32⟩
  | .hbm, ⟨45, _⟩ => ⟨S2048x14336, .i32⟩
  | .hbm, ⟨46, _⟩ => ⟨S2048x14336, .bf16⟩
  | .hbm, ⟨47, _⟩ => ⟨S32x64x14336, .bf16⟩
  | .hbm, ⟨48, _⟩ => ⟨S32x64x14336, .bf16⟩
  | .hbm, ⟨49, _⟩ => ⟨S32x64x14336, .bf16⟩
  | .hbm, ⟨50, _⟩ => ⟨S32x64x14336, .bf16⟩
  | .hbm, ⟨51, _⟩ => ⟨S32x64x14336, .bf16⟩
  | .hbm, ⟨52, _⟩ => ⟨S2048x14336, .bf16⟩
  | .hbm, ⟨53, _⟩ => ⟨S128x14336, .f32⟩
  | .hbm, ⟨54, _⟩ => ⟨S128x14336, .f32⟩
  | .hbm, ⟨55, _⟩ => ⟨S128x14336, .f32⟩
  | .hbm, ⟨56, _⟩ => ⟨S128x14336, .f32⟩
  | .hbm, ⟨57, _⟩ => ⟨S_, .f32⟩
  | .hbm, ⟨58, _⟩ => ⟨S128x14336, .f32⟩
  | .hbm, ⟨59, _⟩ => ⟨S128x14336, .f32⟩
  | .hbm, ⟨60, _⟩ => ⟨S_, .f32⟩
  | .hbm, ⟨61, _⟩ => ⟨S128x14336, .f32⟩
  | .hbm, ⟨62, _⟩ => ⟨S128x14336, .f32⟩
  | .hbm, ⟨63, _⟩ => ⟨S128x14336, .f32⟩
  | .hbm, ⟨64, _⟩ => ⟨S32x14336, .i32⟩
  | .hbm, ⟨65, _⟩ => ⟨S32x14336, .bf16⟩
  | .hbm, ⟨66, _⟩ => ⟨S32x1x14336, .bf16⟩
  | .hbm, ⟨67, _⟩ => ⟨S32x1x14336, .bf16⟩
  | .hbm, ⟨68, _⟩ => ⟨S2048x14336, .i32⟩
  | .hbm, ⟨69, _⟩ => ⟨S128x2048, .bf16⟩
  | .hbm, ⟨70, _⟩ => ⟨S_, .i32⟩
  | .hbm, ⟨71, _⟩ => ⟨S2048x14336, .i32⟩
  | .hbm, ⟨72, _⟩ => ⟨S2048x14336, .i32⟩
  | .hbm, ⟨73, _⟩ => ⟨S2048x14336, .bf16⟩
  | .hbm, ⟨74, _⟩ => ⟨S32x64x14336, .bf16⟩
  | .hbm, ⟨75, _⟩ => ⟨S32x64x14336, .bf16⟩
  | .hbm, ⟨76, _⟩ => ⟨S32x64x14336, .bf16⟩
  | .hbm, ⟨77, _⟩ => ⟨S32x64x14336, .bf16⟩
  | .hbm, ⟨78, _⟩ => ⟨S32x64x14336, .bf16⟩
  | .hbm, ⟨79, _⟩ => ⟨S2048x14336, .bf16⟩
  | .hbm, ⟨80, _⟩ => ⟨S128x14336, .f32⟩
  | .hbm, ⟨81, _⟩ => ⟨S128x2048, .bf16⟩
  | .hbm, ⟨82, _⟩ => ⟨S_, .i32⟩
  | .hbm, ⟨83, _⟩ => ⟨S2048x14336, .i32⟩
  | .hbm, ⟨84, _⟩ => ⟨S2048x14336, .i32⟩
  | .hbm, ⟨85, _⟩ => ⟨S2048x14336, .bf16⟩
  | .hbm, ⟨86, _⟩ => ⟨S32x64x14336, .bf16⟩
  | .hbm, ⟨87, _⟩ => ⟨S32x64x14336, .bf16⟩
  | .hbm, ⟨88, _⟩ => ⟨S32x64x14336, .bf16⟩
  | .hbm, ⟨89, _⟩ => ⟨S32x64x14336, .bf16⟩
  | .hbm, ⟨90, _⟩ => ⟨S32x64x14336, .bf16⟩
  | .hbm, ⟨91, _⟩ => ⟨S2048x14336, .bf16⟩
  | .hbm, ⟨92, _⟩ => ⟨S128x14336, .f32⟩
  | .hbm, ⟨93, _⟩ => ⟨S128x14336, .f32⟩
  | .hbm, ⟨94, _⟩ => ⟨S128x14336, .f32⟩
  | .hbm, ⟨95, _⟩ => ⟨S128x14336, .bf16⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_3 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_4 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Qkv.lean ====
abbrev S128x4096 : Shape := ⟨2, ![128, 4096]⟩
abbrev S4096 : Shape := ⟨1, ![4096]⟩
abbrev S4096x6144 : Shape := ⟨2, ![4096, 6144]⟩
abbrev S64x6144 : Shape := ⟨2, ![64, 6144]⟩
abbrev S1x4096 : Shape := ⟨2, ![1, 4096]⟩
abbrev S128x6144 : Shape := ⟨2, ![128, 6144]⟩
abbrev S4096x512 : Shape := ⟨2, ![4096, 512]⟩
abbrev S64x512 : Shape := ⟨2, ![64, 512]⟩
abbrev S128x512 : Shape := ⟨2, ![128, 512]⟩
abbrev S128x8192 : Shape := ⟨2, ![128, 8192]⟩
abbrev S128 : Shape := ⟨1, ![128]⟩
abbrev S128x1 : Shape := ⟨2, ![128, 1]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S2x512 : Shape := ⟨2, ![2, 512]⟩
abbrev S128x256 : Shape := ⟨2, ![128, 256]⟩

abbrev nBuf : Space → Nat
  | .hbm => 10
  | .vmem => 15
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S4096, .f32⟩
  | .hbm, ⟨3, _⟩ => ⟨S4096, .f32⟩
  | .hbm, ⟨4, _⟩ => ⟨S4096x6144, .i8⟩
  | .hbm, ⟨5, _⟩ => ⟨S64x6144, .bf16⟩
  | .hbm, ⟨6, _⟩ => ⟨S64x6144, .i8⟩
  | .hbm, ⟨7, _⟩ => ⟨S1x4096, .f32⟩
  | .hbm, ⟨8, _⟩ => ⟨S1x4096, .f32⟩
  | .hbm, ⟨9, _⟩ => ⟨S128x6144, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S4096x512, .i8⟩
  | .local _ .vmem, ⟨5, _⟩ => ⟨S4096x512, .i8⟩
  | .local _ .vmem, ⟨6, _⟩ => ⟨S64x512, .bf16⟩
  | .local _ .vmem, ⟨7, _⟩ => ⟨S64x512, .bf16⟩
  | .local _ .vmem, ⟨8, _⟩ => ⟨S64x512, .i8⟩
  | .local _ .vmem, ⟨9, _⟩ => ⟨S64x512, .i8⟩
  | .local _ .vmem, ⟨10, _⟩ => ⟨S128x512, .f32⟩
  | .local _ .vmem, ⟨11, _⟩ => ⟨S128x512, .f32⟩
  | .local _ .vmem, ⟨12, _⟩ => ⟨S128x8192, .bf16⟩
  | .local _ .vmem, ⟨13, _⟩ => ⟨S64x512, .i32⟩
  | .local _ .vmem, ⟨14, _⟩ => ⟨S64x512, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvIdeal.lean ====
abbrev S64x2x512 : Shape := ⟨3, ![64, 2, 512]⟩
abbrev S64x1x512 : Shape := ⟨3, ![64, 1, 512]⟩
abbrev S1x2x512 : Shape := ⟨3, ![1, 2, 512]⟩
abbrev S1x1x512 : Shape := ⟨3, ![1, 1, 512]⟩
  | .local _ .vmem, ⟨13, _⟩ => ⟨S64x2x512, .bf16⟩
  | .local _ .vmem, ⟨14, _⟩ => ⟨S64x2x512, .bf16⟩
variable {F : FTy → Type} [FloatOps F]
-- ==== QkvRefIdeal.lean ====
abbrev S128x4096 : Shape := ⟨2, ![128, 4096]⟩
abbrev S4096 : Shape := ⟨1, ![4096]⟩
abbrev S4096x6144 : Shape := ⟨2, ![4096, 6144]⟩
abbrev S64x6144 : Shape := ⟨2, ![64, 6144]⟩
abbrev S_ : Shape := ⟨0, ![]⟩
abbrev S128 : Shape := ⟨1, ![128]⟩
abbrev S128x1 : Shape := ⟨2, ![128, 1]⟩
abbrev S1x4096 : Shape := ⟨2, ![1, 4096]⟩
abbrev S128x8192 : Shape := ⟨2, ![128, 8192]⟩
abbrev S64x1x6144 : Shape := ⟨3, ![64, 1, 6144]⟩
abbrev S64x64x6144 : Shape := ⟨3, ![64, 64, 6144]⟩
abbrev S128x6144 : Shape := ⟨2, ![128, 6144]⟩

abbrev nBuf : Space → Nat
  | .hbm => 71
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S4096, .f32⟩
  | .hbm, ⟨3, _⟩ => ⟨S4096, .f32⟩
  | .hbm, ⟨4, _⟩ => ⟨S4096x6144, .i8⟩
  | .hbm, ⟨5, _⟩ => ⟨S64x6144, .bf16⟩
  | .hbm, ⟨6, _⟩ => ⟨S64x6144, .i8⟩
  | .hbm, ⟨7, _⟩ => ⟨S128x4096, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x4096, .f32⟩
  | .hbm, ⟨19, _⟩ => ⟨S128x4096, .f32⟩
  | .hbm, ⟨20, _⟩ => ⟨S1x4096, .f32⟩
  | .hbm, ⟨21, _⟩ => ⟨S128x4096, .f32⟩
  | .hbm, ⟨22, _⟩ => ⟨S128x4096, .f32⟩
  | .hbm, ⟨23, _⟩ => ⟨S128x4096, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x4096, .f32⟩
  | .hbm, ⟨35, _⟩ => ⟨S128x4096, .f32⟩
  | .hbm, ⟨36, _⟩ => ⟨S1x4096, .f32⟩
  | .hbm, ⟨37, _⟩ => ⟨S128x4096, .f32⟩
  | .hbm, ⟨38, _⟩ => ⟨S128x4096, .f32⟩
  | .hbm, ⟨39, _⟩ => ⟨S128x8192, .f32⟩
  | .hbm, ⟨40, _⟩ => ⟨S128x8192, .bf16⟩
  | .hbm, ⟨41, _⟩ => ⟨S64x6144, .i32⟩
  | .hbm, ⟨42, _⟩ => ⟨S64x6144, .bf16⟩
  | .hbm, ⟨43, _⟩ => ⟨S64x1x6144, .bf16⟩
  | .hbm, ⟨44, _⟩ => ⟨S64x1x6144, .bf16⟩
  | .hbm, ⟨45, _⟩ => ⟨S4096x6144, .i32⟩
  | .hbm, ⟨46, _⟩ => ⟨S128x4096, .bf16⟩
  | .hbm, ⟨47, _⟩ => ⟨S_, .i32⟩
  | .hbm, ⟨48, _⟩ => ⟨S4096x6144, .i32⟩
  | .hbm, ⟨49, _⟩ => ⟨S4096x6144, .i32⟩
  | .hbm, ⟨50, _⟩ => ⟨S4096x6144, .bf16⟩
  | .hbm, ⟨51, _⟩ => ⟨S64x64x6144, .bf16⟩
  | .hbm, ⟨52, _⟩ => ⟨S64x64x6144, .bf16⟩
  | .hbm, ⟨53, _⟩ => ⟨S64x64x6144, .bf16⟩
  | .hbm, ⟨54, _⟩ => ⟨S64x64x6144, .bf16⟩
  | .hbm, ⟨55, _⟩ => ⟨S64x64x6144, .bf16⟩
  | .hbm, ⟨56, _⟩ => ⟨S4096x6144, .bf16⟩
  | .hbm, ⟨57, _⟩ => ⟨S128x6144, .f32⟩
  | .hbm, ⟨58, _⟩ => ⟨S128x4096, .bf16⟩
  | .hbm, ⟨59, _⟩ => ⟨S_, .i32⟩
  | .hbm, ⟨60, _⟩ => ⟨S4096x6144, .i32⟩
  | .hbm, ⟨61, _⟩ => ⟨S4096x6144, .i32⟩
  | .hbm, ⟨62, _⟩ => ⟨S4096x6144, .bf16⟩
  | .hbm, ⟨63, _⟩ => ⟨S64x64x6144, .bf16⟩
  | .hbm, ⟨64, _⟩ => ⟨S64x64x6144, .bf16⟩
  | .hbm, ⟨65, _⟩ => ⟨S64x64x6144, .bf16⟩
  | .hbm, ⟨66, _⟩ => ⟨S64x64x6144, .bf16⟩
  | .hbm, ⟨67, _⟩ => ⟨S64x64x6144, .bf16⟩
  | .hbm, ⟨68, _⟩ => ⟨S4096x6144, .bf16⟩
  | .hbm, ⟨69, _⟩ => ⟨S128x6144, .f32⟩
  | .hbm, ⟨70, _⟩ => ⟨S128x6144, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Head.lean ====
abbrev S128x4096 : Shape := ⟨2, ![128, 4096]⟩
abbrev S128x1 : Shape := ⟨2, ![128, 1]⟩
abbrev S32000x4096 : Shape := ⟨2, ![32000, 4096]⟩
abbrev S32000 : Shape := ⟨1, ![32000]⟩
abbrev S50x1x640 : Shape := ⟨3, ![50, 1, 640]⟩
abbrev S128x256 : Shape := ⟨2, ![128, 256]⟩
abbrev S640x4096 : Shape := ⟨2, ![640, 4096]⟩
abbrev S1x1x640 : Shape := ⟨3, ![1, 1, 640]⟩
abbrev S128x640 : Shape := ⟨2, ![128, 640]⟩
abbrev S1x640 : Shape := ⟨2, ![1, 640]⟩
abbrev S128 : Shape := ⟨1, ![128]⟩
abbrev S128x128 : Shape := ⟨2, ![128, 128]⟩
abbrev S128x250 : Shape := ⟨2, ![128, 250]⟩

abbrev nBuf : Space → Nat
  | .hbm => 9
  | .vmem => 13
  | .smem => 0
  | _ => 0

abbrev bufTy : (tb : Table) → Fin (tcTables nBuf tb) → BufTy
  | .hbm, ⟨0, _⟩ => ⟨S128x4096, .i8⟩
  | .hbm, ⟨1, _⟩ => ⟨S128x1, .f32⟩
  | .hbm, ⟨2, _⟩ => ⟨S128x1, .f32⟩
  | .hbm, ⟨3, _⟩ => ⟨S32000x4096, .i8⟩
  | .hbm, ⟨4, _⟩ => ⟨S32000, .f32⟩
  | .hbm, ⟨5, _⟩ => ⟨S50x1x640, .f32⟩
  | .hbm, ⟨6, _⟩ => ⟨S128x256, .f32⟩
  | .hbm, ⟨7, _⟩ => ⟨S128x1, .f32⟩
  | .hbm, ⟨8, _⟩ => ⟨S128x250, .f32⟩
  | .local _ .vmem, ⟨0, _⟩ => ⟨S128x4096, .i8⟩
  | .local _ .vmem, ⟨1, _⟩ => ⟨S128x1, .f32⟩
  | .local _ .vmem, ⟨2, _⟩ => ⟨S128x1, .f32⟩
  | .local _ .vmem, ⟨3, _⟩ => ⟨S640x4096, .i8⟩
  | .local _ .vmem, ⟨4, _⟩ => ⟨S640x4096, .i8⟩
  | .local _ .vmem, ⟨5, _⟩ => ⟨S1x1x640, .f32⟩
  | .local _ .vmem, ⟨6, _⟩ => ⟨S1x1x640, .f32⟩
  | .local _ .vmem, ⟨7, _⟩ => ⟨S128x256, .f32⟩
  | .local _ .vmem, ⟨8, _⟩ => ⟨S128x1, .f32⟩
  | .local _ .vmem, ⟨9, _⟩ => ⟨S128x4096, .bf16⟩
  | .local _ .vmem, ⟨10, _⟩ => ⟨S128x256, .f32⟩
  | .local _ .vmem, ⟨11, _⟩ => ⟨S128x1, .f32⟩
  | .local _ .vmem, ⟨12, _⟩ => ⟨S128x1, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v96 : BitVec 1 := Scalar.cmpi .eq arg0 c49_i32
  let v97 : BitVec 32 := Scalar.extui v96
  let c0_i32_38 : BitVec 32 := 0#32
  let v98 : BitVec 1 := Scalar.cmpi .ne v97 c0_i32_38
  v98

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HeadRefIdeal.lean ====
abbrev S128x4096 : Shape := ⟨2, ![128, 4096]⟩
abbrev S128x1 : Shape := ⟨2, ![128, 1]⟩
abbrev S32000x4096 : Shape := ⟨2, ![32000, 4096]⟩
abbrev S32000 : Shape := ⟨1, ![32000]⟩
abbrev S1x32000 : Shape := ⟨2, ![1, 32000]⟩
abbrev S128x250 : Shape := ⟨2, ![128, 250]⟩
abbrev S128x32000 : Shape := ⟨2, ![128, 32000]⟩
abbrev S128 : Shape := ⟨1, ![128]⟩
abbrev S128x250x128 : Shape := ⟨3, ![128, 250, 128]⟩

abbrev nBuf : Space → Nat
  | .hbm => 8
  | .vmem => 7
  | .smem => 0
  | _ => 0

abbrev bufTy : (tb : Table) → Fin (tcTables nBuf tb) → BufTy
  | .hbm, ⟨0, _⟩ => ⟨S128x4096, .i8⟩
  | .hbm, ⟨1, _⟩ => ⟨S128x1, .f32⟩
  | .hbm, ⟨2, _⟩ => ⟨S128x1, .f32⟩
  | .hbm, ⟨3, _⟩ => ⟨S32000x4096, .i8⟩
  | .hbm, ⟨4, _⟩ => ⟨S32000, .f32⟩
  | .hbm, ⟨5, _⟩ => ⟨S1x32000, .f32⟩
  | .hbm, ⟨6, _⟩ => ⟨S128x250, .f32⟩
  | .hbm, ⟨7, _⟩ => ⟨S128x1, .f32⟩
  | .local _ .vmem, ⟨0, _⟩ => ⟨S128x4096, .i8⟩
  | .local _ .vmem, ⟨1, _⟩ => ⟨S128x1, .f32⟩
  | .local _ .vmem, ⟨2, _⟩ => ⟨S128x1, .f32⟩
  | .local _ .vmem, ⟨3, _⟩ => ⟨S32000x4096, .i8⟩
  | .local _ .vmem, ⟨4, _⟩ => ⟨S1x32000, .f32⟩
  | .local _ .vmem, ⟨5, _⟩ => ⟨S128x250, .f32⟩
  | .local _ .vmem, ⟨6, _⟩ => ⟨S128x1, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x250 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== NormQ.lean ====
abbrev S128x4096 : Shape := ⟨2, ![128, 4096]⟩
abbrev S4096 : Shape := ⟨1, ![4096]⟩
abbrev S1x4096 : Shape := ⟨2, ![1, 4096]⟩
abbrev S128x1 : Shape := ⟨2, ![128, 1]⟩
abbrev S128 : Shape := ⟨1, ![128]⟩

abbrev nBuf : Space → Nat
  | .hbm => 6
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S1x4096, .f32⟩
  | .hbm, ⟨3, _⟩ => ⟨S128x4096, .bf16⟩
  | .hbm, ⟨4, _⟩ => ⟨S128x4096, .i8⟩
  | .hbm, ⟨5, _⟩ => ⟨S128x1, .f32⟩
  | .local _ .vmem, ⟨0, _⟩ => ⟨S128x4096, .f32⟩
  | .local _ .vmem, ⟨1, _⟩ => ⟨S1x4096, .f32⟩
  | .local _ .vmem, ⟨2, _⟩ => ⟨S128x4096, .bf16⟩
  | .local _ .vmem, ⟨3, _⟩ => ⟨S128x4096, .i8⟩
  | .local _ .vmem, ⟨4, _⟩ => ⟨S128x1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== NormQRefIdeal.lean ====
abbrev S128x4096 : Shape := ⟨2, ![128, 4096]⟩
abbrev S4096 : Shape := ⟨1, ![4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S128x4096, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x4096, .f32⟩
  | .hbm, ⟨14, _⟩ => ⟨S128x4096, .f32⟩
  | .hbm, ⟨15, _⟩ => ⟨S1x4096, .f32⟩
  | .hbm, ⟨16, _⟩ => ⟨S128x4096, .f32⟩
  | .hbm, ⟨17, _⟩ => ⟨S128x4096, .f32⟩
  | .hbm, ⟨18, _⟩ => ⟨S128x4096, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .i1⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x4096, .f32⟩
  | .hbm, ⟨33, _⟩ => ⟨S128x4096, .f32⟩
  | .hbm, ⟨34, _⟩ => ⟨S128x4096, .f32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S128x4096, .f32⟩
  | .hbm, ⟨39, _⟩ => ⟨S128x4096, .f32⟩
  | .hbm, ⟨40, _⟩ => ⟨S_, .f32⟩
  | .hbm, ⟨41, _⟩ => ⟨S128x4096, .f32⟩
  | .hbm, ⟨42, _⟩ => ⟨S128x4096, .f32⟩
  | .hbm, ⟨43, _⟩ => ⟨S128x4096, .i32⟩
  | .hbm, ⟨44, _⟩ => ⟨S128x4096, .i8⟩
  | .hbm, ⟨45, _⟩ => ⟨S128x4096, .bf16⟩
  | .hbm, ⟨46, _⟩ => ⟨S128x1, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_c_6 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Fc.lean ====
abbrev S128x12288 : Shape := ⟨2, ![128, 12288]⟩
abbrev S12288x4096 : Shape := ⟨2, ![12288, 4096]⟩
abbrev S4096 : Shape := ⟨1, ![4096]⟩
abbrev S1x4096 : Shape := ⟨2, ![1, 4096]⟩
abbrev S128x4096 : Shape := ⟨2, ![128, 4096]⟩
abbrev S128x1 : Shape := ⟨2, ![128, 1]⟩
abbrev S12288x256 : Shape := ⟨2, ![12288, 256]⟩
abbrev S1x256 : Shape := ⟨2, ![1, 256]⟩
abbrev S128x256 : Shape := ⟨2, ![128, 256]⟩
abbrev S128 : Shape := ⟨1, ![128]⟩

abbrev nBuf : Space → Nat
  | .hbm => 7
  | .vmem => 9
  | .smem => 0
  | _ => 0

abbrev bufTy : (tb : Table) → Fin (tcTables nBuf tb) → BufTy
  | .hbm, ⟨0, _⟩ => ⟨S128x12288, .bf16⟩
  | .hbm, ⟨1, _⟩ => ⟨S12288x4096, .fp8e4m3⟩
  | .hbm, ⟨2, _⟩ => ⟨S4096, .f32⟩
  | .hbm, ⟨3, _⟩ => ⟨S1x4096, .f32⟩
  | .hbm, ⟨4, _⟩ => ⟨S128x4096, .f32⟩
  | .hbm, ⟨5, _⟩ => ⟨S128x12288, .fp8e4m3⟩
  | .hbm, ⟨6, _⟩ => ⟨S128x1, .f32⟩
  | .local _ .vmem, ⟨0, _⟩ => ⟨S128x12288, .bf16⟩
  | .local _ .vmem, ⟨1, _⟩ => ⟨S12288x256, .fp8e4m3⟩
  | .local _ .vmem, ⟨2, _⟩ => ⟨S12288x256, .fp8e4m3⟩
  | .local _ .vmem, ⟨3, _⟩ => ⟨S1x256, .f32⟩
  | .local _ .vmem, ⟨4, _⟩ => ⟨S1x256, .f32⟩
  | .local _ .vmem, ⟨5, _⟩ => ⟨S128x256, .f32⟩
  | .local _ .vmem, ⟨6, _⟩ => ⟨S128x256, .f32⟩
  | .local _ .vmem, ⟨7, _⟩ => ⟨S128x12288, .fp8e4m3⟩
  | .local _ .vmem, ⟨8, _⟩ => ⟨S128x1, .f32⟩
  | _, _ => ⟨S128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12288x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FcRefIdeal.lean ====
abbrev S128x12288 : Shape := ⟨2, ![128, 12288]⟩
abbrev S12288x4096 : Shape := ⟨2, ![12288, 4096]⟩
abbrev S4096 : Shape := ⟨1, ![4096]⟩
abbrev S1x4096 : Shape := ⟨2, ![1, 4096]⟩
abbrev S128x4096 : Shape := ⟨2, ![128, 4096]⟩
abbrev S128x1 : Shape := ⟨2, ![128, 1]⟩
abbrev S128 : Shape := ⟨1, ![128]⟩

abbrev nBuf : Space → Nat
  | .hbm => 7
  | .vmem => 6
  | .smem => 0
  | _ => 0

abbrev bufTy : (tb : Table) → Fin (tcTables nBuf tb) → BufTy
  | .hbm, ⟨0, _⟩ => ⟨S128x12288, .bf16⟩
  | .hbm, ⟨1, _⟩ => ⟨S12288x4096, .fp8e4m3⟩
  | .hbm, ⟨2, _⟩ => ⟨S4096, .f32⟩
  | .hbm, ⟨3, _⟩ => ⟨S1x4096, .f32⟩
  | .hbm, ⟨4, _⟩ => ⟨S128x4096, .f32⟩
  | .hbm, ⟨5, _⟩ => ⟨S128x12288, .fp8e4m3⟩
  | .hbm, ⟨6, _⟩ => ⟨S128x1, .f32⟩
  | .local _ .vmem, ⟨0, _⟩ => ⟨S128x12288, .bf16⟩
  | .local _ .vmem, ⟨1, _⟩ => ⟨S12288x4096, .fp8e4m3⟩
  | .local _ .vmem, ⟨2, _⟩ => ⟨S1x4096, .f32⟩
  | .local _ .vmem, ⟨3, _⟩ => ⟨S128x4096, .f32⟩
  | .local _ .vmem, ⟨4, _⟩ => ⟨S128x12288, .fp8e4m3⟩
  | .local _ .vmem, ⟨5, _⟩ => ⟨S128x1, .f32⟩
  | _, _ => ⟨S128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Chunk.lean ====
/-
  One 256-row piece of the packed 4-bit product, as the kernels compute it, read at an element over the extended reals.
  A piece takes 128 rows of packed weights (two 4-bit codes a byte: the low one is the even row, the high one the odd row),
  the scale and zero rows of its two 128-row groups, and 256 columns of the left operand.
-/
module

public import Idealize.ShloMosaic.Lib.Pointwise
public import Idealize.ShloMosaic.Lib.Pipeline.Value
public import Idealize.ShloMosaic.Lib.Pipeline.ValueKit.Tiles
public import Idealize.ShloMosaic.PureOps.Ideal.Laws
public import Idealize.ShloMosaic.Lib.KernelVsHost

@[expose] public section

noncomputable section

namespace Cert.Awq

open Idealize.ShloMosaic Idealize.SL.Sem

abbrev S128x256 : Shape := ⟨2, ![128, 256]⟩
abbrev S128x512 : Shape := ⟨2, ![128, 512]⟩
abbrev S256x512 : Shape := ⟨2, ![256, 512]⟩
abbrev S128x1x512 : Shape := ⟨3, ![128, 1, 512]⟩
abbrev S128x2x512 : Shape := ⟨3, ![128, 2, 512]⟩
abbrev S1x2x512 : Shape := ⟨3, ![1, 2, 512]⟩
abbrev S1x1x512 : Shape := ⟨3, ![1, 1, 512]⟩
abbrev S2x512 : Shape := ⟨2, ![2, 512]⟩
abbrev S1x512 : Shape := ⟨2, ![1, 512]⟩

theorem casts_in : S128x512.ShapeCasts S128x1x512 := by decide
theorem casts_out : S128x2x512.ShapeCasts S256x512 := by decide
theorem casts_row : S1x512.ShapeCasts S1x512 := by decide
theorem cat_pair : Shape.Concatenates [S128x1x512, S128x1x512] S128x2x512 1 := by decide
theorem cat_rows : Shape.Concatenates [S128x512, S128x512] S256x512 0 := by decide
theorem slice_lo : S256x512.Slices ![0, 0] S128x512 := by decide
theorem slice_hi : S256x512.Slices ![128, 0] S128x512 := by decide
theorem natLt_8_32 : 8 < 32 := by decide
theorem pair_row : S1x2x512.Bitcasts 16 S1x1x512 32 := by decide
theorem pair_two : S2x512.Bitcasts 16 S1x512 32 := by decide
theorem casts_lane : S1x1x512.ShapeCasts S1x512 := by decide
theorem slice_row : S2x512.Slices ![0, 0] S1x512 := by decide
theorem bc_row : S1x512.Broadcasts S128x512 := by decide

/-- The 256 rows of codes that 128 rows of bytes hold. -/
def codes (w : Vec Ideal S128x512 .i8) : FVec Ideal S256x512 .bf16 :=
  have v13 : IVec S128x512 32 := extui 32 w natLt_8_32
  sitofp .bf16 (shapeCast S256x512 (concatenate S128x2x512 1
    [⟨S128x1x512, shapeCast S128x1x512 (andi v13 (broadcast S128x512 15#32)) casts_in⟩,
     ⟨S128x1x512, shapeCast S128x1x512 (shrsi v13 (broadcast S128x512 4#32)) casts_in⟩] cat_pair) casts_out)

/-- One row of words repeated over a group's 128 rows: of the word's two equal bf16 halves, the low one. -/
def rep (s : Vec Ideal S1x2x512 .bf16) : FVec Ideal S128x512 .bf16 :=
  have lo : FVec Ideal S1x512 .bf16 := shapeCast S1x512 (rowsOfParity 0 S1x1x512 s pair_row) casts_lane
  have hi : FVec Ideal S1x512 .bf16 := shapeCast S1x512 (rowsOfParity 1 S1x1x512 s pair_row) casts_lane
  broadcastTo S128x512 (shapeCast S1x512 (extractStridedSlice S1x512 ![0, 0] (interleaveRows S2x512 lo hi pair_two) slice_row) casts_row) bc_row

theorem rep_apply (s : Vec Ideal S1x2x512 .bf16) (k : Fin 128) (c : Fin 512) : rep s (ix2 k c) = s (ix3 0 0 c) := by
  pointwise [rep]

/-- A row for each group as words: the row in both halves. -/
def both {G : ℕ} (h : (⟨3, ![G, 2, 512]⟩ : Shape).Bitcasts 16 ⟨3, ![G, 1, 512]⟩ 32) (hc : (⟨2, ![G, 512]⟩ : Shape).ShapeCasts ⟨3, ![G, 1, 512]⟩)
    (s : Vec Ideal ⟨2, ![G, 512]⟩ .bf16) : Vec Ideal ⟨3, ![G, 2, 512]⟩ .bf16 :=
  interleaveRows ⟨3, ![G, 2, 512]⟩ (shapeCast ⟨3, ![G, 1, 512]⟩ s hc) (shapeCast ⟨3, ![G, 1, 512]⟩ s hc) h

/-- The piece's 256 rows of weights: (code - zero) * scale, group by group. -/
def weights (w : Vec Ideal S128x512 .i8) (s0 z0 s1 z1 : Vec Ideal S1x2x512 .bf16) : FVec Ideal S256x512 .bf16 :=
  concatenate S256x512 0
    [⟨S128x512, mulf (subf (extractStridedSlice S128x512 ![0, 0] (codes w) slice_lo) (rep z0)) (rep s0)⟩,
     ⟨S128x512, mulf (subf (extractStridedSlice S128x512 ![128, 0] (codes w) slice_hi) (rep z1)) (rep s1)⟩] cat_rows

/-- The piece's product. -/
def chunk (x : Vec Ideal S128x256 .bf16) (w : Vec Ideal S128x512 .i8) (s0 z0 s1 z1 : Vec Ideal S1x2x512 .bf16) :
    FVec Ideal S128x512 .f32 :=
  matmul (DotDims.plain 128 256 512) none (φ₁ := .bf16) x (weights w s0 z0 s1 z1) (constant S128x512 .f32 0x00000000#32)

/-- A byte's code of parity `p`: the low four bits at `0`, the high four at `1`, as an extended real. -/
def code (b : BitVec 8) (p : ℕ) : EReal :=
  if p = 0 then FloatOps.sitofp (F := Ideal) .bf16 (IntOp.andi (b.setWidth 32) 15#32)
  else FloatOps.sitofp (F := Ideal) .bf16 (IntOp.shrsi .vector (b.setWidth 32) 4#32)

/-- The codes at row `k`: byte `k / 2`, the nibble of `k`'s parity. -/
theorem codes_apply (w : Vec Ideal S128x512 .i8) (k : Fin 256) (c : Fin 512) :
    codes w (ix2 k c) = code (w (ix2 ⟨k.val / 2, by omega⟩ c)) (k.val % 2) := by
  pointwise [codes]
  unfold code
  by_cases h : k.val % 2 = 0
  · rw [dif_pos (by omega), if_pos h]
  · rw [dif_neg (by omega), if_neg h]

/-- The piece's weight at row `k`. -/
theorem weights_apply (w : Vec Ideal S128x512 .i8) (s0 z0 s1 z1 : Vec Ideal S1x2x512 .bf16) (k : Fin 256) (c : Fin 512) :
    weights w s0 z0 s1 z1 (ix2 k c) = (code (w (ix2 ⟨k.val / 2, by omega⟩ c)) (k.val % 2)
      - (if k.val < 128 then z0 else z1) (ix3 0 0 c)) * (if k.val < 128 then s0 else s1) (ix3 0 0 c) := by
  pointwise [weights]
  by_cases h : k.val < 128
  · rw [dif_pos h, if_pos h, if_pos h, codes_apply, rep_apply, rep_apply]
  · rw [dif_neg h, if_neg h, if_neg h, rep_apply, rep_apply]
    rw [show (⟨128 + (k.val - 128), by omega⟩ : Fin 256) = k from Fin.ext (by dsimp only; omega), codes_apply]

/-- The piece's product at an element. -/
theorem chunk_apply (x : Vec Ideal S128x256 .bf16) (w : Vec Ideal S128x512 .i8) (s0 z0 s1 z1 : Vec Ideal S1x2x512 .bf16)
    (r : Fin 128) (c : Fin 512) :
    chunk x w s0 z0 s1 z1 (ix2 r c) = ∑ k : Fin 256, x (ix2 r k) * ((code (w (ix2 ⟨k.val / 2, by omega⟩ c)) (k.val % 2)
      - (if k.val < 128 then z0 else z1) (ix3 0 0 c)) * (if k.val < 128 then s0 else s1) (ix3 0 0 c)) := by
  have e : chunk x w s0 z0 s1 z1 (ix2 r c) = ∑ k : Fin 256, x (ix2 r k) * weights w s0 z0 s1 z1 (ix2 k c) := by
    pointwise [chunk]
  rw [e]
  exact Finset.sum_congr rfl fun k _ => by rw [weights_apply]

/-! ## The whole product as a sum over the rows -/

section Sum
variable {M K H G N : ℕ}

/-- The term of row `j` in the product's element `(r, c)`: the left operand times (code - zero) * scale. -/
def term (hH : K ≤ 2 * H) (hG : K ≤ 128 * G) (x : (⟨2, ![M, K]⟩ : Shape).Idx → EReal) (w : (⟨2, ![H, N]⟩ : Shape).Idx → BitVec 8)
    (s z : (⟨2, ![G, N]⟩ : Shape).Idx → EReal) (r : Fin M) (c : Fin N) (j : ℕ) : EReal :=
  if h : j < K then
    x (ix2 r ⟨j, h⟩) * ((code (w (ix2 ⟨j / 2, by omega⟩ c)) (j % 2) - z (ix2 ⟨j / 128, by omega⟩ c)) * s (ix2 ⟨j / 128, by omega⟩ c))
  else 0

theorem inb_x {g : ℕ} (hg : 256 * g + 256 ≤ K) :
    ∀ a, (![0, 256 * g] : Fin 2 → ℕ) a + (![128, 256] : Fin 2 → ℕ) a ≤ (⟨2, ![128, K]⟩ : Shape).size a :=
  Fin.forall_fin_two.2 ⟨le_refl 128, hg⟩

theorem inb_w (hH : K ≤ 2 * H) {g : ℕ} (hg : 256 * g + 256 ≤ K) :
    ∀ a, (![128 * g, 0] : Fin 2 → ℕ) a + (![128, 512] : Fin 2 → ℕ) a ≤ (⟨2, ![H, 512]⟩ : Shape).size a :=
  Fin.forall_fin_two.2 ⟨show 128 * g + 128 ≤ H by omega, le_refl 512⟩

theorem inb_row {q : ℕ} (hq : q < G) :
    ∀ a, (![q, 0, 0] : Fin 3 → ℕ) a + (![1, 2, 512] : Fin 3 → ℕ) a ≤ (⟨3, ![G, 2, 512]⟩ : Shape).size a := fun a =>
  match a with
  | ⟨0, _⟩ => hq
  | ⟨1, _⟩ => le_refl 2
  | ⟨2, _⟩ => le_refl 512

/-- The rows that the words hold. -/
def row (s : Vec Ideal ⟨3, ![G, 2, 512]⟩ .bf16) : (⟨2, ![G, 512]⟩ : Shape).Idx → EReal := fun i => s (ix3 (i 0) 0 (i 1))

/-- Piece `g` of the product, of the 256 columns of `x`, the 128 rows of `w` and the two rows of `s` and `z` it takes. -/
def piece (hH : K ≤ 2 * H) (hG : K ≤ 128 * G) (x : Vec Ideal ⟨2, ![128, K]⟩ .bf16) (w : Vec Ideal ⟨2, ![H, 512]⟩ .i8)
    (s z : Vec Ideal ⟨3, ![G, 2, 512]⟩ .bf16) (g : ℕ) (hg : 256 * g + 256 ≤ K) : FVec Ideal S128x512 .f32 :=
  chunk (View.ld x (Rect.unit ![0, 256 * g] ![128, 256] (inb_x hg)))
    (View.ld w (Rect.unit ![128 * g, 0] ![128, 512] (inb_w hH hg)))
    (View.ld s (Rect.unit ![2 * g, 0, 0] ![1, 2, 512] (inb_row (by omega))))
    (View.ld z (Rect.unit ![2 * g, 0, 0] ![1, 2, 512] (inb_row (by omega))))
    (View.ld s (Rect.unit ![2 * g + 1, 0, 0] ![1, 2, 512] (inb_row (by omega))))
    (View.ld z (Rect.unit ![2 * g + 1, 0, 0] ![1, 2, 512] (inb_row (by omega))))

/-- A load of a rectangle read at an element. -/
theorem ld_apply {a b m n p q : ℕ} {e : EltTy} (v : Vec Ideal ⟨2, ![a, b]⟩ e)
    (inb : ∀ d, (![p, q] : Fin 2 → ℕ) d + (![m, n] : Fin 2 → ℕ) d ≤ (⟨2, ![a, b]⟩ : Shape).size d) (i : Fin m) (j : Fin n)
    (i' : Fin a) (j' : Fin b) (hi : i'.val = p + i.val) (hj : j'.val = q + j.val) :
    View.ld v (Rect.unit ![p, q] ![m, n] inb) (ix2 i j) = v (ix2 i' j') := by
  refine View.ld_unit_apply_of v _ _ inb _ _ fun d => ?_
  match d with
  | ⟨0, _⟩ => exact hi
  | ⟨1, _⟩ => exact hj

/-- A row of words loaded from the buffer. -/
theorem ld_row (s : Vec Ideal ⟨3, ![G, 2, 512]⟩ .bf16) {q : ℕ} (hq : q < G) (c : Fin 512) (i : Fin G) (hi : i.val = q) :
    View.ld s (Rect.unit ![q, 0, 0] ![1, 2, 512] (inb_row hq)) (ix3 0 0 c) = row s (ix2 i c) := by
  refine View.ld_unit_apply_of s _ _ (inb_row hq) _ (ix3 i 0 c) fun d => ?_
  match d with
  | ⟨0, _⟩ => exact hi
  | ⟨1, _⟩ => rfl
  | ⟨2, _⟩ => exact (Nat.zero_add _).symm

theorem piece_apply (hH : K ≤ 2 * H) (hG : K ≤ 128 * G) (x : Vec Ideal ⟨2, ![128, K]⟩ .bf16) (w : Vec Ideal ⟨2, ![H, 512]⟩ .i8)
    (s z : Vec Ideal ⟨3, ![G, 2, 512]⟩ .bf16) (g : ℕ) (hg : 256 * g + 256 ≤ K) (r : Fin 128) (c : Fin 512) :
    piece hH hG x w s z g hg (ix2 r c) = ∑ k ∈ Finset.range 256, term hH hG x w (row s) (row z) r c (256 * g + k) := by
  rw [piece, chunk_apply, ← Fin.sum_univ_eq_sum_range (fun k => term hH hG x w (row s) (row z) r c (256 * g + k))]
  refine Finset.sum_congr rfl fun k _ => ?_
  have hk := k.isLt
  unfold term
  rw [dif_pos (by omega)]
  rw [ld_apply x (inb_x hg) r k r ⟨256 * g + k.val, by omega⟩ (Nat.zero_add _).symm rfl,
    ld_apply w (inb_w hH hg) ⟨k.val / 2, by omega⟩ c ⟨(256 * g + k.val) / 2, by omega⟩ c (by dsimp only; omega) (Nat.zero_add _).symm,
    show (256 * g + k.val) % 2 = k.val % 2 by omega]
  by_cases h : k.val < 128
  · rw [if_pos h, if_pos h, ld_row s (by omega) c ⟨(256 * g + k.val) / 128, by omega⟩ (by dsimp only; omega),
      ld_row z (by omega) c ⟨(256 * g + k.val) / 128, by omega⟩ (by dsimp only; omega)]
  · rw [if_neg h, if_neg h, ld_row s (by omega) c ⟨(256 * g + k.val) / 128, by omega⟩ (by dsimp only; omega),
      ld_row z (by omega) c ⟨(256 * g + k.val) / 128, by omega⟩ (by dsimp only; omega)]

/-- The pieces `0 … n` added up from the left, as the kernels add them. -/
def pieces (hH : K ≤ 2 * H) (hG : K ≤ 128 * G) (x : Vec Ideal ⟨2, ![128, K]⟩ .bf16) (w : Vec Ideal ⟨2, ![H, 512]⟩ .i8)
    (s z : Vec Ideal ⟨3, ![G, 2, 512]⟩ .bf16) : (n : ℕ) → 256 * n + 256 ≤ K → FVec Ideal S128x512 .f32
  | 0, h => piece hH hG x w s z 0 h
  | n + 1, h => addf (pieces hH hG x w s z n (by omega)) (piece hH hG x w s z (n + 1) h)

theorem pieces_apply (hH : K ≤ 2 * H) (hG : K ≤ 128 * G) (x : Vec Ideal ⟨2, ![128, K]⟩ .bf16) (w : Vec Ideal ⟨2, ![H, 512]⟩ .i8)
    (s z : Vec Ideal ⟨3, ![G, 2, 512]⟩ .bf16) (r : Fin 128) (c : Fin 512) : ∀ (n : ℕ) (h : 256 * n + 256 ≤ K),
    pieces hH hG x w s z n h (ix2 r c) = ∑ j ∈ Finset.range (256 * n + 256), term hH hG x w (row s) (row z) r c j
  | 0, h => by
    rw [pieces, piece_apply]
    simp
  | n + 1, h => by
    have e : 256 * (n + 1) + 256 = (256 * (n + 1)) + 256 := rfl
    rw [e, Finset.sum_range_add, ← piece_apply hH hG x w s z (n + 1) h r c]
    exact congrArg (· + _) (pieces_apply hH hG x w s z r c n (by omega))

/-- A sum over the first `2 * n` numbers is the sum over the even ones plus the sum over the odd ones. -/
theorem sum_even_odd (f : ℕ → EReal) : ∀ n : ℕ,
    ∑ j ∈ Finset.range (2 * n), f j = ∑ k ∈ Finset.range n, f (2 * k) + ∑ k ∈ Finset.range n, f (2 * k + 1)
  | 0 => by simp
  | n + 1 => by
    rw [show 2 * (n + 1) = 2 * n + 1 + 1 by ring, Finset.sum_range_succ, Finset.sum_range_succ, sum_even_odd f n,
      Finset.sum_range_succ, Finset.sum_range_succ]
    abel

/-- One half of the product's element `(r, c)`: over the packed rows, the low codes (`p = 0`) with the even columns of the left
    operand, or the high codes (`p = 1`) with the odd ones. -/
def half (hK : K = 2 * H) (hG : K ≤ 128 * G) (x : (⟨2, ![M, K]⟩ : Shape).Idx → EReal) (w : (⟨2, ![H, N]⟩ : Shape).Idx → BitVec 8)
    (s z : (⟨2, ![G, N]⟩ : Shape).Idx → EReal) (r : Fin M) (c : Fin N) (p : Fin 2) : EReal :=
  ∑ k : Fin H, x (ix2 r ⟨2 * k.val + p.val, by omega⟩)
    * ((code (w (ix2 k c)) p.val - z (ix2 ⟨k.val / 64, by omega⟩ c)) * s (ix2 ⟨k.val / 64, by omega⟩ c))

theorem half_eq (hK : K = 2 * H) (hG : K ≤ 128 * G) (x : (⟨2, ![M, K]⟩ : Shape).Idx → EReal) (w : (⟨2, ![H, N]⟩ : Shape).Idx → BitVec 8)
    (s z : (⟨2, ![G, N]⟩ : Shape).Idx → EReal) (r : Fin M) (c : Fin N) (p : Fin 2) :
    half hK hG x w s z r c p = ∑ k ∈ Finset.range H, term hK.le hG x w s z r c (2 * k + p.val) := by
  rw [half, ← Fin.sum_univ_eq_sum_range (fun k => term hK.le hG x w s z r c (2 * k + p.val))]
  refine Finset.sum_congr rfl fun k _ => ?_
  have hk := k.isLt
  have hp := p.isLt
  unfold term
  rw [dif_pos (by omega), show (2 * k.val + p.val) % 2 = p.val by omega,
    show (⟨(2 * k.val + p.val) / 2, by omega⟩ : Fin H) = k from Fin.ext (by dsimp only; omega),
    show (⟨(2 * k.val + p.val) / 128, by omega⟩ : Fin G) = ⟨k.val / 64, by omega⟩ from Fin.ext (by dsimp only; omega)]

/-- The product over all rows is its two halves. -/
theorem halves (hK : K = 2 * H) (hG : K ≤ 128 * G) (x : (⟨2, ![M, K]⟩ : Shape).Idx → EReal) (w : (⟨2, ![H, N]⟩ : Shape).Idx → BitVec 8)
    (s z : (⟨2, ![G, N]⟩ : Shape).Idx → EReal) (r : Fin M) (c : Fin N) :
    ∑ j ∈ Finset.range K, term hK.le hG x w s z r c j = half hK hG x w s z r c 0 + half hK hG x w s z r c 1 := by
  rw [half_eq, half_eq]
  exact (congrArg (fun n => ∑ j ∈ Finset.range n, term hK.le hG x w s z r c j) hK).trans (sum_even_odd _ H)

end Sum

end Cert.Awq

end
-- ==== Proof.OProjBlock.lean ====
/-
  What one grid point of the output projection leaves in its block.
-/
module

public import proofs.«01_k».proof.Proof.Chunk
public import proofs.«01_k».proof.Proof.Gen.OProjIdeal.Value

@[expose] public section

set_option maxRecDepth 16384

noncomputable section

namespace Cert.OProjVal

open Cert.OProjIdeal Cert.OProjIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → Nat) = fun _ => 0 := funext fun a => by fin_cases a <;> rfl

/-- The block a point leaves: the residual plus the product's pieces added from the left. -/
theorem out_eq (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x512 .f32) (harg5 : arg5.IsWhole) (arg6 : Memref sig .tc .vmem S128x512 .f32) (harg6 : arg6.IsWhole) (arg7 : Memref sig .tc .vmem S32x2x512 .bf16) (harg7 : arg7.IsWhole) (arg8 : Memref sig .tc .vmem S32x2x512 .bf16) (harg8 : arg8.IsWhole)
    (x0 : Vec Ideal S128x4096 .bf16) (x1 : Vec Ideal S2048x512 .i8) (x2 : Vec Ideal S32x512 .bf16) (x3 : Vec Ideal S32x512 .i8) (x4 : Vec Ideal S128x512 .f32) :
    out0_A_5 c i arg1 harg1 arg2 harg2 arg3 harg3 arg4 harg4 arg5 harg5 arg6 harg6 arg7 harg7 arg8 harg8 x0 x1 x2 x3 x4
      = addf x4 (Cert.Awq.pieces (K := 4096) (H := 2048) (G := 32) (by omega) (by omega) x0 x1 (k0_pay1 x2) (k0_pay2 x3) 15 (by omega)) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readCov_eq_canon', View.canon_unit_zero (S := S32x2x512) hz3, View.readAt_eq_ld, harg1.read_unread, harg2.read_unread, harg3.read_unread, harg4.read_unread, harg5.read_unread, View.ld_unit_zero (S := S128x512) hz, View.ld_unit_zero (S := S32x512) hz, shapeCast_self]
  rfl

end Cert.OProjVal

end
-- ==== Proof.OProjArray.lean ====
/-
  The array the output projection leaves: its column blocks put together.
-/
module

public import proofs.«01_k».proof.Proof.OProjBlock
public import Idealize.ShloMosaic.Lib.Pipeline.ValueKit

@[expose] public section

set_option maxRecDepth 16384

noncomputable section

namespace Cert.OProjVal

open Cert.OProjIdeal Cert.OProjIdeal.Gen Idealize.ShloMosaic Idealize.ShloMosaic.TcCoe Idealize.SL.Sem
open Idealize.ShloMosaic.Pipeline (Dat)

variable (m : (ℓ : Loc nD τ sig) → Buf (Elt Ideal) ℓ)

/-- A zero point as a number. -/
def zero {s : Shape} (z : Vec Ideal s .i8) : s.Idx → EReal := fun i => FloatOps.sitofp (F := Ideal) .f32 ((z i).setWidth 32)

/-- The result: the residual plus the product over all rows. -/
def G (x : Vec Ideal S128x4096 .bf16) (w : Vec Ideal S2048x4096 .i8) (s : Vec Ideal S32x4096 .bf16) (z : Vec Ideal S32x4096 .i8)
    (gf : Vec Ideal S128x4096 .f32) : Vec Ideal S128x4096 .f32 := fun i =>
  gf i + ∑ j ∈ Finset.range 4096, Cert.Awq.term (K := 4096) (H := 2048) (G := 32) (by omega) (by omega) x w s (zero z) (i 0) (i 1) j

/-- The rows of words that the body keeps of the scales hold the scales. -/
theorem row_scale (v : Vec Ideal S32x512 .bf16) : Cert.Awq.row (k0_pay1 (F := Ideal) v) = v := by
  funext i
  obtain ⟨q, c, rfl⟩ : ∃ (q : Fin 32) (c : Fin 512), i = ix2 q c := ⟨i 0, i 1, eq_ix2 i⟩
  show k0_pay1 v (ix3 q 0 c) = _
  pointwise [k0_pay1]

/-- The rows of words that the body keeps of the zero points hold them as numbers. -/
theorem row_zero (v : Vec Ideal S32x512 .i8) : Cert.Awq.row (k0_pay2 (F := Ideal) v) = zero v := by
  funext i
  obtain ⟨q, c, rfl⟩ : ∃ (q : Fin 32) (c : Fin 512), i = ix2 q c := ⟨i 0, i 1, eq_ix2 i⟩
  show k0_pay2 v (ix3 q 0 c) = _
  pointwise [k0_pay2]
  rfl

theorem idx : ∀ t : Fin grid0.N, win0_0.index t = ![0, 0] ∧ win0_1.index t = ![0, t.val] ∧ win0_2.index t = ![0, t.val]
    ∧ win0_3.index t = ![0, t.val] ∧ win0_4.index t = ![0, t.val] ∧ win0_5.index t = ![0, t.val] := by decide +kernel

theorem arr (c : Dev nD) : (dats m 0 c).arrAt 5 cfg0.N
    = G (m (Thread.loc c.tc main_arg0)) (m (Thread.loc c.tc main_arg1)) (m (Thread.loc c.tc main_arg2)) (m (Thread.loc c.tc main_arg3)) (m (Thread.loc c.tc main_arg4)) := by
  refine (dats m 0 c).arrAt_eq_of_covers 5 _ (by decide +kernel) fun t hf y => ?_
  blk_simp
  rw [after0_5]
  unfold outsAt0
  rw [out_eq]
  obtain ⟨r, q, rfl⟩ : ∃ (r : Fin 128) (q : Fin 512), y = ix2 r q := ⟨y 0, y 1, eq_ix2 y⟩
  obtain ⟨e0, e1, e2, e3, e4, e5⟩ := idx t
  show _ + Cert.Awq.pieces _ _ _ _ _ _ 15 _ (ix2 r q) = _
  rw [Cert.Awq.pieces_apply, row_scale, row_zero]
  unfold G
  refine congrArg₂ (· + ·) ?_ ?_
  · blk_ext [iblk, V, e4, e5]
  · refine Finset.sum_congr rfl fun j hj => ?_
    have hj := Finset.mem_range.1 hj
    unfold Cert.Awq.term
    rw [dif_pos hj, dif_pos hj]
    have h5 := t.isLt
    refine congrArg₂ (· * ·) ?_ (congrArg₂ (· * ·) (congrArg₂ (· - ·) (congrArg (Cert.Awq.code · (j % 2)) ?_) (congrArg (fun b : BitVec 8 => FloatOps.sitofp (F := Ideal) .f32 (b.setWidth 32)) ?_)) ?_)
    · blk_ext [iblk, V, e0, e5]
    · blk_ext [iblk, V, e1, e5]
    · blk_ext [iblk, V, e3, e5]
    · blk_ext [iblk, V, e2, e5]

end Cert.OProjVal

end
-- ==== Proof.OProjRef.lean ====
/-
  What the output projection's reference computes, at an element.
-/
module

public import proofs.«01_k».proof.Proof.Chunk
public import proofs.«01_k».proof.Proof.Gen.OProjRefIdeal.Read

@[expose] public section

set_option maxRecDepth 16384

noncomputable section

namespace Cert.OProjRefVal

open Cert.OProjRefIdeal Cert.OProjRefIdeal.Gen Cert.OProjRefIdeal.Read Idealize.ShloMosaic Idealize.ShloMosaic.TcCoe Idealize.SL.Sem

variable (x0 : Vec Ideal S128x4096 .bf16) (x1 : Vec Ideal S2048x4096 .i8) (x2 : Vec Ideal S32x4096 .bf16)
  (x3 : Vec Ideal S32x4096 .i8) (x4 : Vec Ideal S128x4096 .f32)

/-- A zero point as a number. -/
def zero (x3 : Vec Ideal S32x4096 .i8) : S32x4096.Idx → EReal := fun i => FloatOps.sitofp (F := Ideal) .bf16 ((x3 i).setWidth 32)

/-- The even columns of the left operand. -/
theorem even_apply (r : Fin 128) (k : Fin 2048) : val_main_v5 (F := Ideal) x0 (ix2 r k) = x0 (ix2 r ⟨2 * k.val + 0, by omega⟩) := by
  unfold val_main_v5 Host.slice
  refine congrArg x0 (funext fun a => Fin.ext ?_)
  match a with
  | ⟨0, _⟩ => show 0 + 1 * r.val = r.val; omega
  | ⟨1, _⟩ => show 0 + 2 * k.val = 2 * k.val + 0; omega

/-- The odd columns of the left operand. -/
theorem odd_apply (r : Fin 128) (k : Fin 2048) : val_main_v16 (F := Ideal) x0 (ix2 r k) = x0 (ix2 r ⟨2 * k.val + 1, by omega⟩) := by
  unfold val_main_v16 Host.slice
  refine congrArg x0 (funext fun a => Fin.ext ?_)
  match a with
  | ⟨0, _⟩ => show 0 + 1 * r.val = r.val; omega
  | ⟨1, _⟩ => show 1 + 2 * k.val = 2 * k.val + 1; omega

/-- The weights of the low codes. -/
theorem low_apply (k : Fin 2048) (c : Fin 4096) : val_main_v14 (F := Ideal) x1 x2 x3 (ix2 k c)
    = (Cert.Awq.code (x1 (ix2 k c)) 0 - zero x3 (ix2 ⟨k.val / 64, by omega⟩ c)) * x2 (ix2 ⟨k.val / 64, by omega⟩ c) := by
  have hk := k.isLt
  have hc := c.isLt
  rw [val_main_v14_apply, val_main_v13_apply, val_main_v11_apply, val_main_v9_apply, val_main_v8_apply, val_main_v7_apply,
    val_main_v4_apply, val_main_v6_apply, val_main_c_apply, val_main_v10_apply, val_main_v2_apply, val_main_v1_apply, val_main_v0_apply,
    val_main_v12_apply, val_main_v3_apply]
  have e1 : idx_main_v9 (idx_main_v14 (ix2 k c)) = ix2 k c := funext fun a => Fin.ext (by
    match a with
    | ⟨0, _⟩ => show ((((k.val * 4096 + c.val) / 262144) * 64 + (k.val * 4096 + c.val) / 4096 % 64) * 4096 + (k.val * 4096 + c.val) % 4096) / 4096 = k.val; omega
    | ⟨1, _⟩ => show ((((k.val * 4096 + c.val) / 262144) * 64 + (k.val * 4096 + c.val) / 4096 % 64) * 4096 + (k.val * 4096 + c.val) % 4096) % 4096 = c.val; omega)
  have e2 : idx_main_v2 (idx_main_v10 (idx_main_v14 (ix2 k c))) = ix2 ⟨k.val / 64, by omega⟩ c := funext fun a => Fin.ext (by
    match a with
    | ⟨0, _⟩ => show (k.val * 4096 + c.val) / 262144 = k.val / 64; omega
    | ⟨1, _⟩ => show (k.val * 4096 + c.val) % 4096 = c.val; omega)
  have e3 : idx_main_v3 (idx_main_v12 (idx_main_v14 (ix2 k c))) = ix2 ⟨k.val / 64, by omega⟩ c := e2
  rw [e1, e2, e3]
  rfl

/-- The weights of the high codes. -/
theorem high_apply (k : Fin 2048) (c : Fin 4096) : val_main_v25 (F := Ideal) x1 x2 x3 (ix2 k c)
    = (Cert.Awq.code (x1 (ix2 k c)) 1 - zero x3 (ix2 ⟨k.val / 64, by omega⟩ c)) * x2 (ix2 ⟨k.val / 64, by omega⟩ c) := by
  have hk := k.isLt
  have hc := c.isLt
  rw [val_main_v25_apply, val_main_v24_apply, val_main_v22_apply, val_main_v20_apply, val_main_v19_apply, val_main_v18_apply,
    val_main_v4_apply, val_main_v17_apply, val_main_c_0_apply, val_main_v21_apply, val_main_v2_apply, val_main_v1_apply, val_main_v0_apply,
    val_main_v23_apply, val_main_v3_apply]
  have e1 : idx_main_v20 (idx_main_v25 (ix2 k c)) = ix2 k c := funext fun a => Fin.ext (by
    match a with
    | ⟨0, _⟩ => show ((((k.val * 4096 + c.val) / 262144) * 64 + (k.val * 4096 + c.val) / 4096 % 64) * 4096 + (k.val * 4096 + c.val) % 4096) / 4096 = k.val; omega
    | ⟨1, _⟩ => show ((((k.val * 4096 + c.val) / 262144) * 64 + (k.val * 4096 + c.val) / 4096 % 64) * 4096 + (k.val * 4096 + c.val) % 4096) % 4096 = c.val; omega)
  have e2 : idx_main_v2 (idx_main_v21 (idx_main_v25 (ix2 k c))) = ix2 ⟨k.val / 64, by omega⟩ c := funext fun a => Fin.ext (by
    match a with
    | ⟨0, _⟩ => show (k.val * 4096 + c.val) / 262144 = k.val / 64; omega
    | ⟨1, _⟩ => show (k.val * 4096 + c.val) % 4096 = c.val; omega)
  have e3 : idx_main_v3 (idx_main_v23 (idx_main_v25 (ix2 k c))) = ix2 ⟨k.val / 64, by omega⟩ c := e2
  rw [e1, e2, e3, shrsi_unit .host .vector]
  rfl

/-- The reference at an element: the residual plus the product over the even rows plus the product over the odd rows. -/
theorem ref_apply (r : Fin 128) (c : Fin 4096) : val_main_v28 (F := Ideal) x0 x1 x2 x3 x4 (ix2 r c)
    = x4 (ix2 r c) + (Cert.Awq.half (K := 4096) (H := 2048) (G := 32) rfl (by omega) x0 x1 x2 (zero x3) r c 0
        + Cert.Awq.half (K := 4096) (H := 2048) (G := 32) rfl (by omega) x0 x1 x2 (zero x3) r c 1) := by
  rw [val_main_v28_apply, val_main_v27_apply, val_main_v15_apply, val_main_v26_apply]
  refine congrArg (x4 (ix2 r c) + ·) (congrArg₂ (· + ·) ?_ ?_)
  · refine Finset.sum_congr rfl fun k _ => ?_
    rw [show lidx_main_v15 (ix2 r c) k = ix2 r k from eq_ix2 _, show ridx_main_v15 (ix2 r c) k = ix2 k c from eq_ix2 _,
      even_apply, low_apply]
    rfl
  · refine Finset.sum_congr rfl fun k _ => ?_
    rw [show lidx_main_v26 (ix2 r c) k = ix2 r k from eq_ix2 _, show ridx_main_v26 (ix2 r c) k = ix2 k c from eq_ix2 _,
      odd_apply, high_apply]
    rfl

end Cert.OProjRefVal

end
-- ==== Proof.OProjEq.lean ====
/-
  The output projection and its reference leave the same array.
-/
module

public import proofs.«01_k».proof.Defs
public import proofs.«01_k».proof.Proof.OProjArray
public import proofs.«01_k».proof.Proof.OProjRef
public import Idealize.ShloMosaic.Lib.Quiescent

@[expose] public section

set_option maxRecDepth 16384

noncomputable section

namespace Cert.OProjEq

open Idealize.ShloMosaic Idealize.ShloMosaic.TcCoe Idealize.SL.Sem

/-- The kernel's value is the reference's, on the same arguments. -/
theorem value_eq (x : Vec Ideal Cert.OProjIdeal.S128x4096 .bf16) (w : Vec Ideal Cert.OProjIdeal.S2048x4096 .i8)
    (s : Vec Ideal Cert.OProjIdeal.S32x4096 .bf16) (z : Vec Ideal Cert.OProjIdeal.S32x4096 .i8)
    (gf : Vec Ideal Cert.OProjIdeal.S128x4096 .f32) :
    Cert.OProjRefIdeal.Read.val_main_v28 (F := Ideal) x w s z gf = Cert.OProjVal.G x w s z gf := by
  funext i
  obtain ⟨r, c, rfl⟩ : ∃ (r : Fin 128) (c : Fin 4096), i = ix2 r c := ⟨i 0, i 1, eq_ix2 i⟩
  rw [Cert.OProjRefVal.ref_apply]
  unfold Cert.OProjVal.G
  exact congrArg (gf (ix2 r c) + ·) (Cert.Awq.halves (K := 4096) (H := 2048) (G := 32) rfl (by omega) x w s (Cert.OProjVal.zero z) r c).symm

theorem algebraic : Cert.algebraic_OProjIdeal_OProjRefIdeal (hOProjIdeal := Cert.OProjIdeal.Gen.facts) (hOProjRefIdeal := Cert.OProjRefIdeal.Gen.facts) := by
  intro m g m' g' _ hargs
  refine ⟨fun c => Cert.OProjVal.G (m (Thread.loc c.tc Cert.OProjIdeal.main_arg0)) (m (Thread.loc c.tc Cert.OProjIdeal.main_arg1)) (m (Thread.loc c.tc Cert.OProjIdeal.main_arg2)) (m (Thread.loc c.tc Cert.OProjIdeal.main_arg3)) (m (Thread.loc c.tc Cert.OProjIdeal.main_arg4)), ?_, ?_⟩
  · refine (θ_run _ _ _).mono (fun r h c => ?_) (Cert.OProjIdeal.Value.run_blocks m g)
    obtain ⟨hv, hk⟩ := h c
    exact ⟨hv.trans (Cert.OProjVal.arr m c), hk⟩
  · refine (θ_run _ _ _).mono (fun r h c => ?_) (Cert.OProjRefIdeal.Value.run (F := Ideal) m' g')
    obtain ⟨hv, hk⟩ := h c
    refine ⟨hv.trans ?_, hk⟩
    obtain ⟨h0, h1, h2, h3, h4⟩ := hargs c
    rw [h0, h1, h2, h3, h4]
    exact (Cert.OProjRefIdeal.Read.val_main_v28_eq _ _ _ _ _).trans (value_eq _ _ _ _ _)

/-- The reference leaves its arguments, and every semaphore counter at zero: it has none. -/
theorem refFrame : Cert.quiescent_OProjRefIdeal (hOProjRefIdeal := Cert.OProjRefIdeal.Gen.facts) := fun m g _ =>
  (θ_run _ _ _).mono (fun r h => ⟨fun c => (h c).2, sem_eq_zero_of_no_sems rfl _⟩) (Cert.OProjRefIdeal.Value.run (F := Ideal) m g)

end Cert.OProjEq

end
-- ==== Proof.DownBlock.lean ====
/-
  What one grid point of the down product leaves in its block.
-/
module

public import proofs.«01_k».proof.Proof.Chunk
public import proofs.«01_k».proof.Proof.Gen.DownIdeal.Value

@[expose] public section

set_option maxRecDepth 16384

noncomputable section

namespace Cert.DownVal

open Cert.DownIdeal Cert.DownIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → Nat) = fun _ => 0 := funext fun a => by fin_cases a <;> rfl

/-- The block a point leaves: the residual plus the product's pieces added from the left. -/
theorem out_eq (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x512 .f32) (harg5 : arg5.IsWhole) (arg6 : Memref sig .tc .vmem S128x512 .f32) (harg6 : arg6.IsWhole) (arg7 : Memref sig .tc .vmem S112x2x512 .bf16) (harg7 : arg7.IsWhole) (arg8 : Memref sig .tc .vmem S112x2x512 .bf16) (harg8 : arg8.IsWhole)
    (x0 : Vec Ideal S128x14336 .bf16) (x1 : Vec Ideal S7168x512 .i8) (x2 : Vec Ideal S112x512 .bf16) (x3 : Vec Ideal S112x512 .i8) (x4 : Vec Ideal S128x512 .f32) :
    out0_A_5 c i arg1 harg1 arg2 harg2 arg3 harg3 arg4 harg4 arg5 harg5 arg6 harg6 arg7 harg7 arg8 harg8 x0 x1 x2 x3 x4
      = addf x4 (Cert.Awq.pieces (K := 14336) (H := 7168) (G := 112) (by omega) (by omega) x0 x1 (k0_pay2 x2) (k0_pay3 x3) 55 (by omega)) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readCov_eq_canon', View.canon_unit_zero (S := S112x2x512) hz3, View.readAt_eq_ld, harg1.read_unread, harg2.read_unread, harg3.read_unread, harg4.read_unread, harg5.read_unread, View.ld_unit_zero (S := S128x512) hz, View.ld_unit_zero (S := S112x512) hz, shapeCast_self]
  rfl

end Cert.DownVal

end
-- ==== Proof.DownArray.lean ====
/-
  The array the down product leaves: its column blocks put together.
-/
module

public import proofs.«01_k».proof.Proof.DownBlock
public import Idealize.ShloMosaic.Lib.Pipeline.ValueKit

@[expose] public section

set_option maxRecDepth 16384

noncomputable section

namespace Cert.DownVal

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- A zero point as a number. -/
def zero {s : Shape} (z : Vec Ideal s .i8) : s.Idx → EReal := fun i => FloatOps.sitofp (F := Ideal) .f32 ((z i).setWidth 32)

/-- The result: the residual plus the product over all rows. -/
def G (x : Vec Ideal S128x14336 .bf16) (w : Vec Ideal S7168x4096 .i8) (s : Vec Ideal S112x4096 .bf16) (z : Vec Ideal S112x4096 .i8)
    (gf : Vec Ideal S128x4096 .f32) : Vec Ideal S128x4096 .f32 := fun i =>
  gf i + ∑ j ∈ Finset.range 14336, Cert.Awq.term (K := 14336) (H := 7168) (G := 112) (by omega) (by omega) x w s (zero z) (i 0) (i 1) j

/-- The rows of words that the body keeps of the scales hold the scales. -/
theorem row_scale (v : Vec Ideal S112x512 .bf16) : Cert.Awq.row (k0_pay2 (F := Ideal) v) = v := by
  funext i
  obtain ⟨q, c, rfl⟩ : ∃ (q : Fin 112) (c : Fin 512), i = ix2 q c := ⟨i 0, i 1, eq_ix2 i⟩
  show k0_pay2 v (ix3 q 0 c) = _
  pointwise [k0_pay2]

/-- The rows of words that the body keeps of the zero points hold them as numbers. -/
theorem row_zero (v : Vec Ideal S112x512 .i8) : Cert.Awq.row (k0_pay3 (F := Ideal) v) = zero v := by
  funext i
  obtain ⟨q, c, rfl⟩ : ∃ (q : Fin 112) (c : Fin 512), i = ix2 q c := ⟨i 0, i 1, eq_ix2 i⟩
  show k0_pay3 v (ix3 q 0 c) = _
  pointwise [k0_pay3]
  rfl

theorem idx : ∀ t : Fin grid0.N, win0_0.index t = ![0, 0] ∧ win0_1.index t = ![0, t.val] ∧ win0_2.index t = ![0, t.val]
    ∧ win0_3.index t = ![0, t.val] ∧ win0_4.index t = ![0, t.val] ∧ win0_5.index t = ![0, t.val] := by decide +kernel

theorem arr (c : Dev nD) : (dats m 0 c).arrAt 5 cfg0.N
    = G (m (Thread.loc c.tc main_arg0)) (m (Thread.loc c.tc main_arg1)) (m (Thread.loc c.tc main_arg2)) (m (Thread.loc c.tc main_arg3)) (m (Thread.loc c.tc main_arg4)) := by
  refine (dats m 0 c).arrAt_eq_of_covers 5 _ (by decide +kernel) fun t hf y => ?_
  blk_simp
  rw [after0_5]
  unfold outsAt0
  rw [out_eq]
  obtain ⟨r, q, rfl⟩ : ∃ (r : Fin 128) (q : Fin 512), y = ix2 r q := ⟨y 0, y 1, eq_ix2 y⟩
  obtain ⟨e0, e1, e2, e3, e4, e5⟩ := idx t
  show _ + Cert.Awq.pieces _ _ _ _ _ _ 55 _ (ix2 r q) = _
  rw [Cert.Awq.pieces_apply, row_scale, row_zero]
  unfold G
  refine congrArg₂ (· + ·) ?_ ?_
  · blk_ext [iblk, V, e4, e5]
  · refine Finset.sum_congr rfl fun j hj => ?_
    have hj := Finset.mem_range.1 hj
    unfold Cert.Awq.term
    rw [dif_pos hj, dif_pos hj]
    have h5 := t.isLt
    refine congrArg₂ (· * ·) ?_ (congrArg₂ (· * ·) (congrArg₂ (· - ·) (congrArg (Cert.Awq.code · (j % 2)) ?_) (congrArg (fun b : BitVec 8 => FloatOps.sitofp (F := Ideal) .f32 (b.setWidth 32)) ?_)) ?_)
    · blk_ext [iblk, V, e0, e5]
    · blk_ext [iblk, V, e1, e5]
    · blk_ext [iblk, V, e3, e5]
    · blk_ext [iblk, V, e2, e5]

end Cert.DownVal

end
-- ==== Proof.DownRef.lean ====
/-
  What the down product's reference computes, at an element.
-/
module

public import proofs.«01_k».proof.Proof.Chunk
public import proofs.«01_k».proof.Proof.Gen.DownRefIdeal.Read

@[expose] public section

set_option maxRecDepth 16384

noncomputable section

namespace Cert.DownRefVal

open Cert.DownRefIdeal Cert.DownRefIdeal.Gen Cert.DownRefIdeal.Read Idealize.ShloMosaic Idealize.ShloMosaic.TcCoe Idealize.SL.Sem

variable (x0 : Vec Ideal S128x14336 .bf16) (x1 : Vec Ideal S7168x4096 .i8) (x2 : Vec Ideal S112x4096 .bf16)
  (x3 : Vec Ideal S112x4096 .i8) (x4 : Vec Ideal S128x4096 .f32)

/-- A zero point as a number. -/
def zero (x3 : Vec Ideal S112x4096 .i8) : S112x4096.Idx → EReal := fun i => FloatOps.sitofp (F := Ideal) .bf16 ((x3 i).setWidth 32)

/-- The even columns of the left operand. -/
theorem even_apply (r : Fin 128) (k : Fin 7168) : val_main_v5 (F := Ideal) x0 (ix2 r k) = x0 (ix2 r ⟨2 * k.val + 0, by omega⟩) := by
  unfold val_main_v5 Host.slice
  refine congrArg x0 (funext fun a => Fin.ext ?_)
  match a with
  | ⟨0, _⟩ => show 0 + 1 * r.val = r.val; omega
  | ⟨1, _⟩ => show 0 + 2 * k.val = 2 * k.val + 0; omega

/-- The odd columns of the left operand. -/
theorem odd_apply (r : Fin 128) (k : Fin 7168) : val_main_v16 (F := Ideal) x0 (ix2 r k) = x0 (ix2 r ⟨2 * k.val + 1, by omega⟩) := by
  unfold val_main_v16 Host.slice
  refine congrArg x0 (funext fun a => Fin.ext ?_)
  match a with
  | ⟨0, _⟩ => show 0 + 1 * r.val = r.val; omega
  | ⟨1, _⟩ => show 1 + 2 * k.val = 2 * k.val + 1; omega

/-- The weights of the low codes. -/
theorem low_apply (k : Fin 7168) (c : Fin 4096) : val_main_v14 (F := Ideal) x1 x2 x3 (ix2 k c)
    = (Cert.Awq.code (x1 (ix2 k c)) 0 - zero x3 (ix2 ⟨k.val / 64, by omega⟩ c)) * x2 (ix2 ⟨k.val / 64, by omega⟩ c) := by
  have hk := k.isLt
  have hc := c.isLt
  rw [val_main_v14_apply, val_main_v13_apply, val_main_v11_apply, val_main_v9_apply, val_main_v8_apply, val_main_v7_apply,
    val_main_v4_apply, val_main_v6_apply, val_main_c_apply, val_main_v10_apply, val_main_v2_apply, val_main_v1_apply, val_main_v0_apply,
    val_main_v12_apply, val_main_v3_apply]
  have e1 : idx_main_v9 (idx_main_v14 (ix2 k c)) = ix2 k c := funext fun a => Fin.ext (by
    match a with
    | ⟨0, _⟩ => show ((((k.val * 4096 + c.val) / 262144) * 64 + (k.val * 4096 + c.val) / 4096 % 64) * 4096 + (k.val * 4096 + c.val) % 4096) / 4096 = k.val; omega
    | ⟨1, _⟩ => show ((((k.val * 4096 + c.val) / 262144) * 64 + (k.val * 4096 + c.val) / 4096 % 64) * 4096 + (k.val * 4096 + c.val) % 4096) % 4096 = c.val; omega)
  have e2 : idx_main_v2 (idx_main_v10 (idx_main_v14 (ix2 k c))) = ix2 ⟨k.val / 64, by omega⟩ c := funext fun a => Fin.ext (by
    match a with
    | ⟨0, _⟩ => show (k.val * 4096 + c.val) / 262144 = k.val / 64; omega
    | ⟨1, _⟩ => show (k.val * 4096 + c.val) % 4096 = c.val; omega)
  have e3 : idx_main_v3 (idx_main_v12 (idx_main_v14 (ix2 k c))) = ix2 ⟨k.val / 64, by omega⟩ c := e2
  rw [e1, e2, e3]
  rfl

/-- The weights of the high codes. -/
theorem high_apply (k : Fin 7168) (c : Fin 4096) : val_main_v25 (F := Ideal) x1 x2 x3 (ix2 k c)
    = (Cert.Awq.code (x1 (ix2 k c)) 1 - zero x3 (ix2 ⟨k.val / 64, by omega⟩ c)) * x2 (ix2 ⟨k.val / 64, by omega⟩ c) := by
  have hk := k.isLt
  have hc := c.isLt
  rw [val_main_v25_apply, val_main_v24_apply, val_main_v22_apply, val_main_v20_apply, val_main_v19_apply, val_main_v18_apply,
    val_main_v4_apply, val_main_v17_apply, val_main_c_0_apply, val_main_v21_apply, val_main_v2_apply, val_main_v1_apply, val_main_v0_apply,
    val_main_v23_apply, val_main_v3_apply]
  have e1 : idx_main_v20 (idx_main_v25 (ix2 k c)) = ix2 k c := funext fun a => Fin.ext (by
    match a with
    | ⟨0, _⟩ => show ((((k.val * 4096 + c.val) / 262144) * 64 + (k.val * 4096 + c.val) / 4096 % 64) * 4096 + (k.val * 4096 + c.val) % 4096) / 4096 = k.val; omega
    | ⟨1, _⟩ => show ((((k.val * 4096 + c.val) / 262144) * 64 + (k.val * 4096 + c.val) / 4096 % 64) * 4096 + (k.val * 4096 + c.val) % 4096) % 4096 = c.val; omega)
  have e2 : idx_main_v2 (idx_main_v21 (idx_main_v25 (ix2 k c))) = ix2 ⟨k.val / 64, by omega⟩ c := funext fun a => Fin.ext (by
    match a with
    | ⟨0, _⟩ => show (k.val * 4096 + c.val) / 262144 = k.val / 64; omega
    | ⟨1, _⟩ => show (k.val * 4096 + c.val) % 4096 = c.val; omega)
  have e3 : idx_main_v3 (idx_main_v23 (idx_main_v25 (ix2 k c))) = ix2 ⟨k.val / 64, by omega⟩ c := e2
  rw [e1, e2, e3, shrsi_unit .host .vector]
  rfl

/-- The reference at an element: the residual plus the product over the even rows plus the product over the odd rows. -/
theorem ref_apply (r : Fin 128) (c : Fin 4096) : val_main_v28 (F := Ideal) x0 x1 x2 x3 x4 (ix2 r c)
    = x4 (ix2 r c) + (Cert.Awq.half (K := 14336) (H := 7168) (G := 112) rfl (by omega) x0 x1 x2 (zero x3) r c 0
        + Cert.Awq.half (K := 14336) (H := 7168) (G := 112) rfl (by omega) x0 x1 x2 (zero x3) r c 1) := by
  rw [val_main_v28_apply, val_main_v27_apply, val_main_v15_apply, val_main_v26_apply]
  refine congrArg (x4 (ix2 r c) + ·) (congrArg₂ (· + ·) ?_ ?_)
  · refine Finset.sum_congr rfl fun k _ => ?_
    rw [show lidx_main_v15 (ix2 r c) k = ix2 r k from eq_ix2 _, show ridx_main_v15 (ix2 r c) k = ix2 k c from eq_ix2 _,
      even_apply, low_apply]
    rfl
  · refine Finset.sum_congr rfl fun k _ => ?_
    rw [show lidx_main_v26 (ix2 r c) k = ix2 r k from eq_ix2 _, show ridx_main_v26 (ix2 r c) k = ix2 k c from eq_ix2 _,
      odd_apply, high_apply]
    rfl

end Cert.DownRefVal

end
-- ==== Proof.DownEq.lean ====
/-
  The down product and its reference leave the same array.
-/
module

public import proofs.«01_k».proof.Defs
public import proofs.«01_k».proof.Proof.DownArray
public import proofs.«01_k».proof.Proof.DownRef
public import Idealize.ShloMosaic.Lib.Quiescent

@[expose] public section

set_option maxRecDepth 16384

noncomputable section

namespace Cert.DownEq

open Idealize.ShloMosaic Idealize.ShloMosaic.TcCoe Idealize.SL.Sem

/-- The kernel's value is the reference's, on the same arguments. -/
theorem value_eq (x : Vec Ideal Cert.DownIdeal.S128x14336 .bf16) (w : Vec Ideal Cert.DownIdeal.S7168x4096 .i8)
    (s : Vec Ideal Cert.DownIdeal.S112x4096 .bf16) (z : Vec Ideal Cert.DownIdeal.S112x4096 .i8)
    (gf : Vec Ideal Cert.DownIdeal.S128x4096 .f32) :
    Cert.DownRefIdeal.Read.val_main_v28 (F := Ideal) x w s z gf = Cert.DownVal.G x w s z gf := by
  funext i
  obtain ⟨r, c, rfl⟩ : ∃ (r : Fin 128) (c : Fin 4096), i = ix2 r c := ⟨i 0, i 1, eq_ix2 i⟩
  rw [Cert.DownRefVal.ref_apply]
  unfold Cert.DownVal.G
  exact congrArg (gf (ix2 r c) + ·) (Cert.Awq.halves (K := 14336) (H := 7168) (G := 112) rfl (by omega) x w s (Cert.DownVal.zero z) r c).symm

theorem algebraic : Cert.algebraic_DownIdeal_DownRefIdeal (hDownIdeal := Cert.DownIdeal.Gen.facts) (hDownRefIdeal := Cert.DownRefIdeal.Gen.facts) := by
  intro m g m' g' _ hargs
  refine ⟨fun c => Cert.DownVal.G (m (Thread.loc c.tc Cert.DownIdeal.main_arg0)) (m (Thread.loc c.tc Cert.DownIdeal.main_arg1)) (m (Thread.loc c.tc Cert.DownIdeal.main_arg2)) (m (Thread.loc c.tc Cert.DownIdeal.main_arg3)) (m (Thread.loc c.tc Cert.DownIdeal.main_arg4)), ?_, ?_⟩
  · refine (θ_run _ _ _).mono (fun r h c => ?_) (Cert.DownIdeal.Value.run_blocks m g)
    obtain ⟨hv, hk⟩ := h c
    exact ⟨hv.trans (Cert.DownVal.arr m c), hk⟩
  · refine (θ_run _ _ _).mono (fun r h c => ?_) (Cert.DownRefIdeal.Value.run (F := Ideal) m' g')
    obtain ⟨hv, hk⟩ := h c
    refine ⟨hv.trans ?_, hk⟩
    obtain ⟨h0, h1, h2, h3, h4⟩ := hargs c
    rw [h0, h1, h2, h3, h4]
    exact (Cert.DownRefIdeal.Read.val_main_v28_eq _ _ _ _ _).trans (value_eq _ _ _ _ _)

/-- The reference leaves its arguments, and every semaphore counter at zero: it has none. -/
theorem refFrame : Cert.quiescent_DownRefIdeal (hDownRefIdeal := Cert.DownRefIdeal.Gen.facts) := fun m g _ =>
  (θ_run _ _ _).mono (fun r h => ⟨fun c => (h c).2, sem_eq_zero_of_no_sems rfl _⟩) (Cert.DownRefIdeal.Value.run (F := Ideal) m g)

end Cert.DownEq

end
-- ==== Proof.GateUpBlock.lean ====
/-
  What one grid point of the gate and up products leaves in its block and in the buffer of normalised activations.
-/
module

public import proofs.«01_k».proof.Proof.Chunk
public import proofs.«01_k».proof.Proof.Gen.GateUpIdeal.Value

@[expose] public section

set_option maxRecDepth 16384

noncomputable section

namespace Cert.GateUpVal

open Cert.GateUpIdeal Cert.GateUpIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → Nat) = fun _ => 0 := funext fun a => by fin_cases a <;> rfl

/-- One block of a product: its pieces added from the left. -/
def prod (x : Vec Ideal S128x4096 .bf16) (w : Vec Ideal S2048x512 .i8) (s : Vec Ideal S32x512 .bf16) (z : Vec Ideal S32x512 .i8) : FVec Ideal S128x512 .f32 :=
  Cert.Awq.pieces (K := 4096) (H := 2048) (G := 32) (by omega) (by omega) x w (k0_pay3 s) (k0_pay4 z) 15 (by omega)

/-- The gate's activation times the up product. -/
def gated (g u : FVec Ideal S128x512 .f32) : FVec Ideal S128x512 .bf16 := k0_pay1 u (k0_pay121 g)

/-- The first point leaves the normalised activations in the buffer. -/
theorem sout0_A_0_eq (c : Dev nD) (i : grid0.Coords) (arg1 : Memref sig .tc .vmem S128x4096 .f32) (harg1 : arg1.IsWhole) (arg2 : Memref sig .tc .vmem S1x4096 .f32) (harg2 : arg2.IsWhole) (arg3 : Memref sig .tc .vmem S2048x512 .i8) (harg3 : arg3.IsWhole) (arg4 : Memref sig .tc .vmem S32x512 .bf16) (harg4 : arg4.IsWhole) (arg5 : Memref sig .tc .vmem S32x512 .i8) (harg5 : arg5.IsWhole) (arg6 : Memref sig .tc .vmem S2048x512 .i8) (harg6 : arg6.IsWhole) (arg7 : Memref sig .tc .vmem S32x512 .bf16) (harg7 : arg7.IsWhole) (arg8 : Memref sig .tc .vmem S32x512 .i8) (harg8 : arg8.IsWhole) (arg9 : Memref sig .tc .vmem S128x512 .bf16) (harg9 : arg9.IsWhole) (arg10 : Memref sig .tc .vmem S128x4096 .bf16) (harg10 : arg10.IsWhole) (arg11 : Memref sig .tc .vmem S32x2x512 .bf16) (harg11 : arg11.IsWhole) (arg12 : Memref sig .tc .vmem S32x2x512 .bf16) (harg12 : arg12.IsWhole) (hc0 : cond0_0 i)
       (x0 : Vec Ideal S128x4096 .f32) (x1 : Vec Ideal S1x4096 .f32) (x2 : Vec Ideal S2048x512 .i8) (x3 : Vec Ideal S32x512 .bf16) (x4 : Vec Ideal S32x512 .i8) (x5 : Vec Ideal S2048x512 .i8) (x6 : Vec Ideal S32x512 .bf16) (x7 : Vec Ideal S32x512 .i8) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
      = k0_pay2 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  simp only [View.readCov_eq_canon', View.canon_cons_unit_zero (S := S32x2x512) hz3, View.canon_unit_zero (S := S128x4096) hz, View.readAt_eq_ld, harg1.read_unread, harg2.read_unread, harg3.read_unread, harg4.read_unread, harg5.read_unread, harg6.read_unread, harg7.read_unread, harg8.read_unread, harg9.read_unread, harg10.read_unread, View.ld_unit_zero (S := S128x4096) hz, View.ld_unit_zero (S := S1x4096) hz, View.ld_unit_zero (S := S128x512) hz, View.ld_unit_zero (S := S32x512) hz, shapeCast_self]

set_option maxHeartbeats 1000000 in
/-- The block that the first point leaves. -/
theorem out0_A_8_eq (c : Dev nD) (i : grid0.Coords) (arg1 : Memref sig .tc .vmem S128x4096 .f32) (harg1 : arg1.IsWhole) (arg2 : Memref sig .tc .vmem S1x4096 .f32) (harg2 : arg2.IsWhole) (arg3 : Memref sig .tc .vmem S2048x512 .i8) (harg3 : arg3.IsWhole) (arg4 : Memref sig .tc .vmem S32x512 .bf16) (harg4 : arg4.IsWhole) (arg5 : Memref sig .tc .vmem S32x512 .i8) (harg5 : arg5.IsWhole) (arg6 : Memref sig .tc .vmem S2048x512 .i8) (harg6 : arg6.IsWhole) (arg7 : Memref sig .tc .vmem S32x512 .bf16) (harg7 : arg7.IsWhole) (arg8 : Memref sig .tc .vmem S32x512 .i8) (harg8 : arg8.IsWhole) (arg9 : Memref sig .tc .vmem S128x512 .bf16) (harg9 : arg9.IsWhole) (arg10 : Memref sig .tc .vmem S128x4096 .bf16) (harg10 : arg10.IsWhole) (arg11 : Memref sig .tc .vmem S32x2x512 .bf16) (harg11 : arg11.IsWhole) (arg12 : Memref sig .tc .vmem S32x2x512 .bf16) (harg12 : arg12.IsWhole) (hc0 : cond0_0 i)
       (x0 : Vec Ideal S128x4096 .f32) (x1 : Vec Ideal S1x4096 .f32) (x2 : Vec Ideal S2048x512 .i8) (x3 : Vec Ideal S32x512 .bf16) (x4 : Vec Ideal S32x512 .i8) (x5 : Vec Ideal S2048x512 .i8) (x6 : Vec Ideal S32x512 .bf16) (x7 : Vec Ideal S32x512 .i8) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
      = gated (prod (k0_pay2 x0 x1) x2 x3 x4) (prod (k0_pay2 x0 x1) x5 x6 x7) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  simp only [View.readCov_eq_canon', View.canon_cons_unit_zero (S := S32x2x512) hz3, View.canon_unit_zero (S := S128x4096) hz, View.readAt_eq_ld, harg1.read_unread, harg2.read_unread, harg3.read_unread, harg4.read_unread, harg5.read_unread, harg6.read_unread, harg7.read_unread, harg8.read_unread, harg9.read_unread, harg10.read_unread, View.ld_unit_zero (S := S128x4096) hz, View.ld_unit_zero (S := S1x4096) hz, View.ld_unit_zero (S := S128x512) hz, View.ld_unit_zero (S := S32x512) hz, shapeCast_self]
  refine congrArg₂ k0_pay1 ?_ (congrArg k0_pay121 ?_)
  · rfl
  · rfl

set_option maxHeartbeats 1000000 in
/-- The block that a later point leaves. -/
theorem out0_B_8_eq (c : Dev nD) (i : grid0.Coords) (arg1 : Memref sig .tc .vmem S128x4096 .f32) (harg1 : arg1.IsWhole) (arg2 : Memref sig .tc .vmem S1x4096 .f32) (harg2 : arg2.IsWhole) (arg3 : Memref sig .tc .vmem S2048x512 .i8) (harg3 : arg3.IsWhole) (arg4 : Memref sig .tc .vmem S32x512 .bf16) (harg4 : arg4.IsWhole) (arg5 : Memref sig .tc .vmem S32x512 .i8) (harg5 : arg5.IsWhole) (arg6 : Memref sig .tc .vmem S2048x512 .i8) (harg6 : arg6.IsWhole) (arg7 : Memref sig .tc .vmem S32x512 .bf16) (harg7 : arg7.IsWhole) (arg8 : Memref sig .tc .vmem S32x512 .i8) (harg8 : arg8.IsWhole) (arg9 : Memref sig .tc .vmem S128x512 .bf16) (harg9 : arg9.IsWhole) (arg10 : Memref sig .tc .vmem S128x4096 .bf16) (harg10 : arg10.IsWhole) (arg11 : Memref sig .tc .vmem S32x2x512 .bf16) (harg11 : arg11.IsWhole) (arg12 : Memref sig .tc .vmem S32x2x512 .bf16) (harg12 : arg12.IsWhole) (hc0 : ¬cond0_0 i)
       (x0 : Vec Ideal S128x4096 .f32) (x1 : Vec Ideal S1x4096 .f32) (x2 : Vec Ideal S2048x512 .i8) (x3 : Vec Ideal S32x512 .bf16) (x4 : Vec Ideal S32x512 .i8) (x5 : Vec Ideal S2048x512 .i8) (x6 : Vec Ideal S32x512 .bf16) (x7 : Vec Ideal S32x512 .i8) (xs0 : Vec Ideal S128x4096 .bf16) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0
      = gated (prod xs0 x2 x3 x4) (prod xs0 x5 x6 x7) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero hz]
  simp only [View.readCov_eq_canon', View.canon_cons_unit_zero (S := S32x2x512) hz3, View.canon_unit_zero (S := S128x4096) hz, View.readAt_eq_ld, harg1.read_unread, harg2.read_unread, harg3.read_unread, harg4.read_unread, harg5.read_unread, harg6.read_unread, harg7.read_unread, harg8.read_unread, harg9.read_unread, harg10.read_unread, View.ld_unit_zero (S := S128x4096) hz, View.ld_unit_zero (S := S1x4096) hz, View.ld_unit_zero (S := S128x512) hz, View.ld_unit_zero (S := S32x512) hz, shapeCast_self]
  refine congrArg₂ k0_pay1 ?_ (congrArg k0_pay121 ?_)
  · rfl
  · rfl

end Cert.GateUpVal

end
-- ==== Proof.Norm.lean ====
/-
  The normalisation by the root mean square, as the kernels compute it, read at an element over the extended reals.
-/
module

public import proofs.«01_k».proof.Proof.Chunk

@[expose] public section

noncomputable section

namespace Cert.Norm

open Idealize.ShloMosaic Idealize.SL.Sem

abbrev S128x4096 : Shape := ⟨2, ![128, 4096]⟩
abbrev S1x4096 : Shape := ⟨2, ![1, 4096]⟩
abbrev S4096 : Shape := ⟨1, ![4096]⟩
abbrev S128x1 : Shape := ⟨2, ![128, 1]⟩
abbrev S128 : Shape := ⟨1, ![128]⟩

theorem reds : S128x4096.Reduces [1] S128 := by decide
theorem cast_col : S128.ShapeCasts S128x1 := by decide
theorem bc_col : S128x1.Broadcasts S128x4096 := by decide
theorem cast_row : S1x4096.ShapeCasts S1x4096 := by decide
theorem bc_row : S1x4096.Broadcasts S128x4096 := by decide
theorem lt_16_32 : FTy.bf16.bits < FTy.f32.bits := by decide

/-- A row divided by its root mean square, times the weights. -/
def normed (h : Vec Ideal S128x4096 .f32) (w : Vec Ideal S1x4096 .f32) : FVec Ideal S128x4096 .f32 :=
  mulf (divf h (broadcastTo S128x4096 (sqrt (addf (divf (shapeCast S128x1
      (multiReduction .add [1] S128 (mulf h h) 0x00000000#32 reds (.inl rfl) rfl) cast_col)
      (broadcast S128x1 (Scalar.ofBits .f32 0x45800000#32))) (broadcast S128x1 (Scalar.ofBits .f32 0x3727C5AC#32)))) bc_col))
    (broadcastTo S128x4096 (shapeCast S1x4096 w cast_row) bc_row)

/-- The same at row `r`, column `j`. -/
def nrm (h : S128x4096.Idx → EReal) (w : Fin 4096 → EReal) (r : Fin 128) (j : Fin 4096) : EReal :=
  Ideal.div (h (ix2 r j)) (Ideal.sqrt (Ideal.div (∑ k : Fin 4096, h (ix2 r k) * h (ix2 r k)) (Scalar.ofBits (F := Ideal) .f32 0x45800000#32)
    + Scalar.ofBits (F := Ideal) .f32 0x3727C5AC#32)) * w j

theorem normed_apply (h : Vec Ideal S128x4096 .f32) (w : Vec Ideal S1x4096 .f32) (r : Fin 128) (j : Fin 4096) :
    normed h w (ix2 r j) = nrm h (fun k => w (ix2 0 k)) r j := by
  pointwise [normed, nrm]

end Cert.Norm

end
-- ==== Proof.GateUpArray.lean ====
/-
  The array the gate and up products leave: its column blocks put together.
-/
module

public import proofs.«01_k».proof.Proof.GateUpBlock
public import proofs.«01_k».proof.Proof.Norm
public import Idealize.ShloMosaic.Lib.Pipeline.ValueKit
public import Idealize.ShloMosaic.Lib.Claim

@[expose] public section

set_option maxRecDepth 16384

noncomputable section

namespace Cert.GateUpVal

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ)

/-- A zero point as a number. -/
def zero {s : Shape} (z : Vec Ideal s .i8) : s.Idx → EReal := fun i => FloatOps.sitofp (F := Ideal) .f32 ((z i).setWidth 32)

/-- The normalised activations. -/
def act (h : Vec Ideal S128x4096 .f32) (np : Vec Ideal S4096 .f32) : S128x4096.Idx → EReal := fun i =>
  Cert.Norm.nrm h (fun k => np (ix1 k)) (i 0) (i 1)

/-- A product over all rows. -/
def dot (x : S128x4096.Idx → EReal) (w : Vec Ideal S2048x14336 .i8) (s : Vec Ideal S32x14336 .bf16) (z : Vec Ideal S32x14336 .i8)
    (r : Fin 128) (c : Fin 14336) : EReal :=
  ∑ j ∈ Finset.range 4096, Cert.Awq.term (K := 4096) (H := 2048) (G := 32) (by omega) (by omega) x w s (zero z) r c j

/-- The result: the activation of the gate product times the up product. -/
def G (h : Vec Ideal S128x4096 .f32) (np : Vec Ideal S4096 .f32) (wg : Vec Ideal S2048x14336 .i8) (sg : Vec Ideal S32x14336 .bf16)
    (zg : Vec Ideal S32x14336 .i8) (wu : Vec Ideal S2048x14336 .i8) (su : Vec Ideal S32x14336 .bf16) (zu : Vec Ideal S32x14336 .i8) :
    Vec Ideal S128x14336 .bf16 := fun i =>
  dot (act h np) wg sg zg (i 0) (i 1) * Ideal.logistic (dot (act h np) wg sg zg (i 0) (i 1)) * dot (act h np) wu su zu (i 0) (i 1)

/-- The rows of words that the body keeps of the scales hold the scales. -/
theorem row_scale (v : Vec Ideal S32x512 .bf16) : Cert.Awq.row (k0_pay3 (F := Ideal) v) = v := by
  funext i
  obtain ⟨q, c, rfl⟩ : ∃ (q : Fin 32) (c : Fin 512), i = ix2 q c := ⟨i 0, i 1, eq_ix2 i⟩
  show k0_pay3 v (ix3 q 0 c) = _
  pointwise [k0_pay3]

/-- The rows of words that the body keeps of the zero points hold them as numbers. -/
theorem row_zero (v : Vec Ideal S32x512 .i8) : Cert.Awq.row (k0_pay4 (F := Ideal) v) = zero v := by
  funext i
  obtain ⟨q, c, rfl⟩ : ∃ (q : Fin 32) (c : Fin 512), i = ix2 q c := ⟨i 0, i 1, eq_ix2 i⟩
  show k0_pay4 v (ix3 q 0 c) = _
  pointwise [k0_pay4]
  rfl

theorem idx : ∀ t : Fin grid0.N, win0_0.index t = ![0, 0] ∧ win0_1.index t = ![0, 0] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] := by decide +kernel

/-- What the first point puts in the buffer. -/
theorem pay2_eq (h : Vec Ideal S128x4096 .f32) (w : Vec Ideal S1x4096 .f32) : k0_pay2 h w = Cert.Norm.normed h w := by
  unfold k0_pay2 Cert.Norm.normed
  dsimp only
  rw [shapeCast_self]
  rfl

/-- The first point's normalised activations. -/
theorem act_eq (c : Dev nD) (t : Fin cfg0.N) : k0_pay2 (iblk m c 0 t) (iblk m c 1 t)
    = act (m (Thread.loc c.tc main_arg0)) (m (Thread.loc c.tc main_arg1)) := by
  funext i
  obtain ⟨r, j, rfl⟩ : ∃ (r : Fin 128) (j : Fin 4096), i = ix2 r j := ⟨i 0, i 1, eq_ix2 i⟩
  obtain ⟨e0, e1, -⟩ := idx t
  rw [pay2_eq, Cert.Norm.normed_apply]
  unfold act
  refine congrArg₂ (fun a b => Cert.Norm.nrm a b r j) (funext fun i => ?_) (funext fun k => ?_)
  · obtain ⟨r, j, rfl⟩ : ∃ (r : Fin 128) (j : Fin 4096), i = ix2 r j := ⟨i 0, i 1, eq_ix2 i⟩
    blk_ext [iblk, V, e0]
  · blk_point [iblk, V, e1]

/-- The buffer of normalised activations after every point. -/
theorem scr_eq (c : Dev nD) : ∀ (n : ℕ) (hn : n < cfg0.N), (outsAt0 m c n hn).2
    = act (m (Thread.loc c.tc main_arg0)) (m (Thread.loc c.tc main_arg1))
  | 0, hn => by
    refine (congrArg Prod.snd (outsAt0_A m c ⟨0, hn⟩ rfl)).trans ?_
    dsimp only
    rw [sout0_A_0_eq]
    exact act_eq m c ⟨0, hn⟩
  | n + 1, hn => by
    have hN : n + 1 < 28 := hn
    refine (congrArg Prod.snd (outsAt0_B m c ⟨n + 1, hn⟩ (by dsimp only; omega))).trans ?_
    exact scr_eq c n (Nat.lt_of_succ_lt hn)

/-- The block that a point leaves. -/
theorem block_eq (c : Dev nD) (t : Fin cfg0.N) : (outsAt0 m c t.val t.isLt).1
    = gated (prod (act (m (Thread.loc c.tc main_arg0)) (m (Thread.loc c.tc main_arg1))) (iblk m c 2 t) (iblk m c 3 t) (iblk m c 4 t))
        (prod (act (m (Thread.loc c.tc main_arg0)) (m (Thread.loc c.tc main_arg1))) (iblk m c 5 t) (iblk m c 6 t) (iblk m c 7 t)) := by
  by_cases h : t.val % 28 = 0
  · refine (congrArg Prod.fst (outsAt0_A m c t h)).trans ?_
    dsimp only
    rw [out0_A_8_eq, act_eq m c t]
  · refine (congrArg Prod.fst (outsAt0_B m c t h)).trans ?_
    dsimp only
    rw [out0_B_8_eq, scr_eq m c (t.val - 1)]

theorem gated_apply (g u : FVec Ideal S128x512 .f32) (i : S128x512.Idx) : gated g u i = g i * Ideal.logistic (g i) * u i := rfl

/-- A block's product at an element: over the arrays' columns. -/
theorem prod_apply (x : S128x4096.Idx → EReal) (w' : Vec Ideal S2048x512 .i8) (s' : Vec Ideal S32x512 .bf16) (z' : Vec Ideal S32x512 .i8)
    (w : Vec Ideal S2048x14336 .i8) (s : Vec Ideal S32x14336 .bf16) (z : Vec Ideal S32x14336 .i8) (r : Fin 128) (q : Fin 512) (c : Fin 14336)
    (hw : ∀ k : Fin 2048, w' (ix2 k q) = w (ix2 k c)) (hs : ∀ k : Fin 32, s' (ix2 k q) = s (ix2 k c)) (hz : ∀ k : Fin 32, z' (ix2 k q) = z (ix2 k c)) :
    prod x w' s' z' (ix2 r q) = dot x w s z r c := by
  unfold prod dot
  rw [Cert.Awq.pieces_apply, row_scale, row_zero]
  refine Finset.sum_congr rfl fun j hj => ?_
  have hj := Finset.mem_range.1 hj
  unfold Cert.Awq.term
  rw [dif_pos hj, dif_pos hj]
  unfold zero
  rw [hw, hs, hz]

theorem arr (c : Dev nD) : (dats m 0 c).arrAt 8 cfg0.N
    = G (m (Thread.loc c.tc main_arg0)) (m (Thread.loc c.tc main_arg1)) (m (Thread.loc c.tc main_arg2)) (m (Thread.loc c.tc main_arg3)) (m (Thread.loc c.tc main_arg4)) (m (Thread.loc c.tc main_arg5)) (m (Thread.loc c.tc main_arg6)) (m (Thread.loc c.tc main_arg7)) := by
  refine (dats m 0 c).arrAt_eq_of_covers 8 _ (by decide +kernel) fun t hf y => ?_
  blk_simp
  rw [after0_8, block_eq]
  obtain ⟨r, q, rfl⟩ : ∃ (r : Fin 128) (q : Fin 512), y = ix2 r q := ⟨y 0, y 1, eq_ix2 y⟩
  obtain ⟨e0, e1, e2, e3, e4, e5, e6, e7, e8⟩ := idx t
  have h5 : t.val < 28 := t.isLt
  have hq := q.isLt
  have key : gated (prod (act (m (Thread.loc c.tc main_arg0)) (m (Thread.loc c.tc main_arg1))) (iblk m c 2 t) (iblk m c 3 t) (iblk m c 4 t))
        (prod (act (m (Thread.loc c.tc main_arg0)) (m (Thread.loc c.tc main_arg1))) (iblk m c 5 t) (iblk m c 6 t) (iblk m c 7 t)) (ix2 r q)
      = G (m (Thread.loc c.tc main_arg0)) (m (Thread.loc c.tc main_arg1)) (m (Thread.loc c.tc main_arg2)) (m (Thread.loc c.tc main_arg3)) (m (Thread.loc c.tc main_arg4)) (m (Thread.loc c.tc main_arg5)) (m (Thread.loc c.tc main_arg6)) (m (Thread.loc c.tc main_arg7)) (ix2 r ⟨t.val * 512 + q.val, by omega⟩) := by
    rw [gated_apply]
    rw [prod_apply _ _ _ _ (m (Thread.loc c.tc main_arg2)) (m (Thread.loc c.tc main_arg3)) (m (Thread.loc c.tc main_arg4)) r q ⟨t.val * 512 + q.val, by omega⟩
      (fun k => by blk_ext [iblk, V, e2]) (fun k => by blk_ext [iblk, V, e3]) (fun k => by blk_ext [iblk, V, e4])]
    rw [prod_apply _ _ _ _ (m (Thread.loc c.tc main_arg5)) (m (Thread.loc c.tc main_arg6)) (m (Thread.loc c.tc main_arg7)) r q ⟨t.val * 512 + q.val, by omega⟩
      (fun k => by blk_ext [iblk, V, e5]) (fun k => by blk_ext [iblk, V, e6]) (fun k => by blk_ext [iblk, V, e7])]
    rfl
  refine key.trans (congrArg _ (funext fun a => Fin.ext ?_))
  match a with
  | ⟨0, _⟩ => blk_ext [e8]
  | ⟨1, _⟩ => blk_ext [e8]

end Cert.GateUpVal

end
-- ==== Proof.GateUpRef.lean ====
/-
  What the reference of the gate and up products computes, at an element.
-/
module

public import proofs.«01_k».proof.Proof.Norm
public import proofs.«01_k».proof.Proof.Gen.GateUpRefIdeal.Read

@[expose] public section

set_option maxRecDepth 16384

noncomputable section

namespace Cert.GateUpRefVal

open Cert.GateUpRefIdeal Cert.GateUpRefIdeal.Gen Cert.GateUpRefIdeal.Read Idealize.ShloMosaic Idealize.ShloMosaic.TcCoe Idealize.SL.Sem

variable (x0 : Vec Ideal S128x4096 .f32) (x1 : Vec Ideal S4096 .f32)
  (x2 : Vec Ideal S2048x14336 .i8) (x3 : Vec Ideal S32x14336 .bf16) (x4 : Vec Ideal S32x14336 .i8)
  (x5 : Vec Ideal S2048x14336 .i8) (x6 : Vec Ideal S32x14336 .bf16) (x7 : Vec Ideal S32x14336 .i8)

/-- A zero point as a number. -/
def zero (z : Vec Ideal S32x14336 .i8) : S32x14336.Idx → EReal := fun i => FloatOps.sitofp (F := Ideal) .bf16 ((z i).setWidth 32)

/-- The normalised activations. -/
theorem act_apply (r : Fin 128) (j : Fin 4096) : val_main_v13 (F := Ideal) x0 x1 (ix2 r j) = Cert.Norm.nrm x0 (fun k => x1 (ix1 k)) r j := by
  rw [val_main_v13_apply, val_main_v12_apply, val_main_v9_apply, val_main_v8_apply, val_main_v7_apply, val_main_v6_apply, val_main_v4_apply, val_main_v2_apply, val_main_v1_apply, val_main_v3_apply, val_main_cst_0_apply, val_main_v5_apply, val_main_cst_1_apply, val_main_v11_apply, val_main_v10_apply]
  unfold Cert.Norm.nrm
  rw [show val_main_cst (F := Ideal) (Shape.Idx.first h_S_) = 0 from Ideal.ofBits_zero .f32, zero_add]
  refine congrArg₂ (· * ·) (congrArg₂ Ideal.div (congrArg _ ?_) ?_) ?_
  · rfl
  · refine congrArg (fun a : EReal => Ideal.sqrt (Ideal.div a (Scalar.ofBits (F := Ideal) .f32 0x45800000#32) + Scalar.ofBits (F := Ideal) .f32 0x3727C5AC#32)) (Finset.sum_congr rfl fun k _ => ?_)
    rw [val_main_v0_apply, show idx_main_v1 (idx_main_v2 (idx_main_v8 (ix2 r j))) k = ix2 r k from eq_ix2 _]
    rfl
  · refine congrArg x1 (funext fun a => ?_)
    match a with
    | ⟨0, _⟩ => rfl

/-- The gate weights of the low codes. -/
theorem gate_low_apply (k : Fin 2048) (c : Fin 14336) : val_main_v28 (F := Ideal) x2 x3 x4 (ix2 k c)
    = (Cert.Awq.code (x2 (ix2 k c)) 0 - zero x4 (ix2 ⟨k.val / 64, by omega⟩ c)) * x3 (ix2 ⟨k.val / 64, by omega⟩ c) := by
  have hk := k.isLt
  have hc := c.isLt
  rw [val_main_v28_apply, val_main_v27_apply, val_main_v25_apply, val_main_v23_apply, val_main_v22_apply, val_main_v21_apply, val_main_v18_apply, val_main_v20_apply, val_main_c_apply, val_main_v24_apply, val_main_v16_apply, val_main_v15_apply, val_main_v14_apply, val_main_v26_apply, val_main_v17_apply]
  have e1 : idx_main_v23 (idx_main_v28 (ix2 k c)) = ix2 k c := funext fun a => Fin.ext (by
    match a with
    | ⟨0, _⟩ => show ((((k.val * 14336 + c.val) / 917504) * 64 + (k.val * 14336 + c.val) / 14336 % 64) * 14336 + (k.val * 14336 + c.val) % 14336) / 14336 = k.val; omega
    | ⟨1, _⟩ => show ((((k.val * 14336 + c.val) / 917504) * 64 + (k.val * 14336 + c.val) / 14336 % 64) * 14336 + (k.val * 14336 + c.val) % 14336) % 14336 = c.val; omega)
  have e2 : idx_main_v16 (idx_main_v24 (idx_main_v28 (ix2 k c))) = ix2 ⟨k.val / 64, by omega⟩ c := funext fun a => Fin.ext (by
    match a with
    | ⟨0, _⟩ => show (k.val * 14336 + c.val) / 917504 = k.val / 64; omega
    | ⟨1, _⟩ => show (k.val * 14336 + c.val) % 14336 = c.val; omega)
  have e3 : idx_main_v17 (idx_main_v26 (idx_main_v28 (ix2 k c))) = ix2 ⟨k.val / 64, by omega⟩ c := e2
  rw [e1, e2, e3]
  rfl

/-- The gate weights of the high codes. -/
theorem gate_high_apply (k : Fin 2048) (c : Fin 14336) : val_main_v39 (F := Ideal) x2 x3 x4 (ix2 k c)
    = (Cert.Awq.code (x2 (ix2 k c)) 1 - zero x4 (ix2 ⟨k.val / 64, by omega⟩ c)) * x3 (ix2 ⟨k.val / 64, by omega⟩ c) := by
  have hk := k.isLt
  have hc := c.isLt
  rw [val_main_v39_apply, val_main_v38_apply, val_main_v36_apply, val_main_v34_apply, val_main_v33_apply, val_main_v32_apply, val_main_v18_apply, val_main_v31_apply, val_main_c_2_apply, val_main_v35_apply, val_main_v16_apply, val_main_v15_apply, val_main_v14_apply, val_main_v37_apply, val_main_v17_apply]
  have e1 : idx_main_v34 (idx_main_v39 (ix2 k c)) = ix2 k c := funext fun a => Fin.ext (by
    match a with
    | ⟨0, _⟩ => show ((((k.val * 14336 + c.val) / 917504) * 64 + (k.val * 14336 + c.val) / 14336 % 64) * 14336 + (k.val * 14336 + c.val) % 14336) / 14336 = k.val; omega
    | ⟨1, _⟩ => show ((((k.val * 14336 + c.val) / 917504) * 64 + (k.val * 14336 + c.val) / 14336 % 64) * 14336 + (k.val * 14336 + c.val) % 14336) % 14336 = c.val; omega)
  have e2 : idx_main_v16 (idx_main_v35 (idx_main_v39 (ix2 k c))) = ix2 ⟨k.val / 64, by omega⟩ c := funext fun a => Fin.ext (by
    match a with
    | ⟨0, _⟩ => show (k.val * 14336 + c.val) / 917504 = k.val / 64; omega
    | ⟨1, _⟩ => show (k.val * 14336 + c.val) % 14336 = c.val; omega)
  have e3 : idx_main_v17 (idx_main_v37 (idx_main_v39 (ix2 k c))) = ix2 ⟨k.val / 64, by omega⟩ c := e2
  rw [e1, e2, e3, shrsi_unit .host .vector]
  rfl

/-- The even columns of the left operand. -/
theorem gate_even_apply (r : Fin 128) (k : Fin 2048) : val_main_v19 (F := Ideal) x0 x1 (ix2 r k) = val_main_v13 (F := Ideal) x0 x1 (ix2 r ⟨2 * k.val + 0, by omega⟩) := by
  unfold val_main_v19 Host.slice
  refine congrArg (val_main_v13 (F := Ideal) x0 x1) (funext fun a => Fin.ext ?_)
  match a with
  | ⟨0, _⟩ => show 0 + 1 * r.val = r.val; omega
  | ⟨1, _⟩ => show 0 + 2 * k.val = 2 * k.val + 0; omega

/-- The odd columns of the left operand. -/
theorem gate_odd_apply (r : Fin 128) (k : Fin 2048) : val_main_v30 (F := Ideal) x0 x1 (ix2 r k) = val_main_v13 (F := Ideal) x0 x1 (ix2 r ⟨2 * k.val + 1, by omega⟩) := by
  unfold val_main_v30 Host.slice
  refine congrArg (val_main_v13 (F := Ideal) x0 x1) (funext fun a => Fin.ext ?_)
  match a with
  | ⟨0, _⟩ => show 0 + 1 * r.val = r.val; omega
  | ⟨1, _⟩ => show 1 + 2 * k.val = 2 * k.val + 1; omega

/-- The gate product: its even rows and its odd rows. -/
theorem gate_dot_apply (r : Fin 128) (c : Fin 14336) : val_main_v41 (F := Ideal) x0 x1 x2 x3 x4 (ix2 r c)
    = Cert.Awq.half (K := 4096) (H := 2048) (G := 32) rfl (by omega) (val_main_v13 (F := Ideal) x0 x1) x2 x3 (zero x4) r c 0
        + Cert.Awq.half (K := 4096) (H := 2048) (G := 32) rfl (by omega) (val_main_v13 (F := Ideal) x0 x1) x2 x3 (zero x4) r c 1 := by
  rw [val_main_v41_apply, val_main_v29_apply, val_main_v40_apply]
  refine congrArg₂ (· + ·) ?_ ?_
  · refine Finset.sum_congr rfl fun k _ => ?_
    rw [show lidx_main_v29 (ix2 r c) k = ix2 r k from eq_ix2 _, show ridx_main_v29 (ix2 r c) k = ix2 k c from eq_ix2 _,
      gate_even_apply, gate_low_apply]
    rfl
  · refine Finset.sum_congr rfl fun k _ => ?_
    rw [show lidx_main_v40 (ix2 r c) k = ix2 r k from eq_ix2 _, show ridx_main_v40 (ix2 r c) k = ix2 k c from eq_ix2 _,
      gate_odd_apply, gate_high_apply]
    rfl

/-- The up weights of the low codes. -/
theorem up_low_apply (k : Fin 2048) (c : Fin 14336) : val_main_v57 (F := Ideal) x5 x6 x7 (ix2 k c)
    = (Cert.Awq.code (x5 (ix2 k c)) 0 - zero x7 (ix2 ⟨k.val / 64, by omega⟩ c)) * x6 (ix2 ⟨k.val / 64, by omega⟩ c) := by
  have hk := k.isLt
  have hc := c.isLt
  rw [val_main_v57_apply, val_main_v56_apply, val_main_v54_apply, val_main_v52_apply, val_main_v51_apply, val_main_v50_apply, val_main_v47_apply, val_main_v49_apply, val_main_c_3_apply, val_main_v53_apply, val_main_v45_apply, val_main_v44_apply, val_main_v43_apply, val_main_v55_apply, val_main_v46_apply]
  have e1 : idx_main_v52 (idx_main_v57 (ix2 k c)) = ix2 k c := funext fun a => Fin.ext (by
    match a with
    | ⟨0, _⟩ => show ((((k.val * 14336 + c.val) / 917504) * 64 + (k.val * 14336 + c.val) / 14336 % 64) * 14336 + (k.val * 14336 + c.val) % 14336) / 14336 = k.val; omega
    | ⟨1, _⟩ => show ((((k.val * 14336 + c.val) / 917504) * 64 + (k.val * 14336 + c.val) / 14336 % 64) * 14336 + (k.val * 14336 + c.val) % 14336) % 14336 = c.val; omega)
  have e2 : idx_main_v45 (idx_main_v53 (idx_main_v57 (ix2 k c))) = ix2 ⟨k.val / 64, by omega⟩ c := funext fun a => Fin.ext (by
    match a with
    | ⟨0, _⟩ => show (k.val * 14336 + c.val) / 917504 = k.val / 64; omega
    | ⟨1, _⟩ => show (k.val * 14336 + c.val) % 14336 = c.val; omega)
  have e3 : idx_main_v46 (idx_main_v55 (idx_main_v57 (ix2 k c))) = ix2 ⟨k.val / 64, by omega⟩ c := e2
  rw [e1, e2, e3]
  rfl

/-- The up weights of the high codes. -/
theorem up_high_apply (k : Fin 2048) (c : Fin 14336) : val_main_v68 (F := Ideal) x5 x6 x7 (ix2 k c)
    = (Cert.Awq.code (x5 (ix2 k c)) 1 - zero x7 (ix2 ⟨k.val / 64, by omega⟩ c)) * x6 (ix2 ⟨k.val / 64, by omega⟩ c) := by
  have hk := k.isLt
  have hc := c.isLt
  rw [val_main_v68_apply, val_main_v67_apply, val_main_v65_apply, val_main_v63_apply, val_main_v62_apply, val_main_v61_apply, val_main_v47_apply, val_main_v60_apply, val_main_c_4_apply, val_main_v64_apply, val_main_v45_apply, val_main_v44_apply, val_main_v43_apply, val_main_v66_apply, val_main_v46_apply]
  have e1 : idx_main_v63 (idx_main_v68 (ix2 k c)) = ix2 k c := funext fun a => Fin.ext (by
    match a with
    | ⟨0, _⟩ => show ((((k.val * 14336 + c.val) / 917504) * 64 + (k.val * 14336 + c.val) / 14336 % 64) * 14336 + (k.val * 14336 + c.val) % 14336) / 14336 = k.val; omega
    | ⟨1, _⟩ => show ((((k.val * 14336 + c.val) / 917504) * 64 + (k.val * 14336 + c.val) / 14336 % 64) * 14336 + (k.val * 14336 + c.val) % 14336) % 14336 = c.val; omega)
  have e2 : idx_main_v45 (idx_main_v64 (idx_main_v68 (ix2 k c))) = ix2 ⟨k.val / 64, by omega⟩ c := funext fun a => Fin.ext (by
    match a with
    | ⟨0, _⟩ => show (k.val * 14336 + c.val) / 917504 = k.val / 64; omega
    | ⟨1, _⟩ => show (k.val * 14336 + c.val) % 14336 = c.val; omega)
  have e3 : idx_main_v46 (idx_main_v66 (idx_main_v68 (ix2 k c))) = ix2 ⟨k.val / 64, by omega⟩ c := e2
  rw [e1, e2, e3, shrsi_unit .host .vector]
  rfl

/-- The even columns of the left operand. -/
theorem up_even_apply (r : Fin 128) (k : Fin 2048) : val_main_v48 (F := Ideal) x0 x1 (ix2 r k) = val_main_v13 (F := Ideal) x0 x1 (ix2 r ⟨2 * k.val + 0, by omega⟩) := by
  unfold val_main_v48 Host.slice
  refine congrArg (val_main_v13 (F := Ideal) x0 x1) (funext fun a => Fin.ext ?_)
  match a with
  | ⟨0, _⟩ => show 0 + 1 * r.val = r.val; omega
  | ⟨1, _⟩ => show 0 + 2 * k.val = 2 * k.val + 0; omega

/-- The odd columns of the left operand. -/
theorem up_odd_apply (r : Fin 128) (k : Fin 2048) : val_main_v59 (F := Ideal) x0 x1 (ix2 r k) = val_main_v13 (F := Ideal) x0 x1 (ix2 r ⟨2 * k.val + 1, by omega⟩) := by
  unfold val_main_v59 Host.slice
  refine congrArg (val_main_v13 (F := Ideal) x0 x1) (funext fun a => Fin.ext ?_)
  match a with
  | ⟨0, _⟩ => show 0 + 1 * r.val = r.val; omega
  | ⟨1, _⟩ => show 1 + 2 * k.val = 2 * k.val + 1; omega

/-- The up product: its even rows and its odd rows. -/
theorem up_dot_apply (r : Fin 128) (c : Fin 14336) : val_main_v70 (F := Ideal) x0 x1 x5 x6 x7 (ix2 r c)
    = Cert.Awq.half (K := 4096) (H := 2048) (G := 32) rfl (by omega) (val_main_v13 (F := Ideal) x0 x1) x5 x6 (zero x7) r c 0
        + Cert.Awq.half (K := 4096) (H := 2048) (G := 32) rfl (by omega) (val_main_v13 (F := Ideal) x0 x1) x5 x6 (zero x7) r c 1 := by
  rw [val_main_v70_apply, val_main_v58_apply, val_main_v69_apply]
  refine congrArg₂ (· + ·) ?_ ?_
  · refine Finset.sum_congr rfl fun k _ => ?_
    rw [show lidx_main_v58 (ix2 r c) k = ix2 r k from eq_ix2 _, show ridx_main_v58 (ix2 r c) k = ix2 k c from eq_ix2 _,
      up_even_apply, up_low_apply]
    rfl
  · refine Finset.sum_congr rfl fun k _ => ?_
    rw [show lidx_main_v69 (ix2 r c) k = ix2 r k from eq_ix2 _, show ridx_main_v69 (ix2 r c) k = ix2 k c from eq_ix2 _,
      up_odd_apply, up_high_apply]
    rfl

end Cert.GateUpRefVal

end
-- ==== Proof.GateUpEq.lean ====
/-
  The gate and up products and their reference leave the same array.
-/
module

public import proofs.«01_k».proof.Defs
public import proofs.«01_k».proof.Proof.GateUpArray
public import proofs.«01_k».proof.Proof.GateUpRef
public import Idealize.ShloMosaic.Lib.Quiescent

@[expose] public section

set_option maxRecDepth 16384

noncomputable section

namespace Cert.GateUpEq

open Idealize.ShloMosaic Idealize.ShloMosaic.TcCoe Idealize.SL.Sem

variable (x0 : Vec Ideal Cert.GateUpIdeal.S128x4096 .f32) (x1 : Vec Ideal Cert.GateUpIdeal.S4096 .f32)
  (x2 : Vec Ideal Cert.GateUpIdeal.S2048x14336 .i8) (x3 : Vec Ideal Cert.GateUpIdeal.S32x14336 .bf16) (x4 : Vec Ideal Cert.GateUpIdeal.S32x14336 .i8)
  (x5 : Vec Ideal Cert.GateUpIdeal.S2048x14336 .i8) (x6 : Vec Ideal Cert.GateUpIdeal.S32x14336 .bf16) (x7 : Vec Ideal Cert.GateUpIdeal.S32x14336 .i8)

theorem act_eq : Cert.GateUpRefIdeal.Read.val_main_v13 (F := Ideal) x0 x1 = Cert.GateUpVal.act x0 x1 := by
  funext i
  obtain ⟨r, j, rfl⟩ : ∃ (r : Fin 128) (j : Fin 4096), i = ix2 r j := ⟨i 0, i 1, eq_ix2 i⟩
  exact Cert.GateUpRefVal.act_apply x0 x1 r j

theorem gate_eq (r : Fin 128) (c : Fin 14336) : Cert.GateUpRefIdeal.Read.val_main_v41 (F := Ideal) x0 x1 x2 x3 x4 (ix2 r c)
    = Cert.GateUpVal.dot (Cert.GateUpVal.act x0 x1) x2 x3 x4 r c := by
  rw [Cert.GateUpRefVal.gate_dot_apply, act_eq]
  exact (Cert.Awq.halves (K := 4096) (H := 2048) (G := 32) rfl (by omega) _ x2 x3 (Cert.GateUpVal.zero x4) r c).symm

theorem up_eq (r : Fin 128) (c : Fin 14336) : Cert.GateUpRefIdeal.Read.val_main_v70 (F := Ideal) x0 x1 x5 x6 x7 (ix2 r c)
    = Cert.GateUpVal.dot (Cert.GateUpVal.act x0 x1) x5 x6 x7 r c := by
  rw [Cert.GateUpRefVal.up_dot_apply, act_eq]
  exact (Cert.Awq.halves (K := 4096) (H := 2048) (G := 32) rfl (by omega) _ x5 x6 (Cert.GateUpVal.zero x7) r c).symm

theorem one_eq : FloatOps.ofBits (F := Ideal) .f32 0x3F800000#32 = (1 : EReal) := Ideal.ofBits_one_f32

/-- The kernel's value is the reference's, on the same arguments. -/
theorem value_eq : Cert.GateUpRefIdeal.Read.val_main_v72 (F := Ideal) x0 x1 x2 x3 x4 x5 x6 x7 = Cert.GateUpVal.G x0 x1 x2 x3 x4 x5 x6 x7 := by
  funext i
  obtain ⟨r, c, rfl⟩ : ∃ (r : Fin 128) (c : Fin 14336), i = ix2 r c := ⟨i 0, i 1, eq_ix2 i⟩
  rw [Cert.GateUpRefIdeal.Read.val_main_v72_apply, Cert.GateUpRefIdeal.Read.val_main_v71_apply, Cert.GateUpRefIdeal.Read.val_main_v42_apply,
    Cert.GateUpRefIdeal.Read.val_main_call0_v5_apply, Cert.GateUpRefIdeal.Read.val_main_call0_v4_apply, Cert.GateUpRefIdeal.Read.val_main_call0_cst_0_apply,
    Cert.GateUpRefIdeal.Read.val_main_call0_v3_apply, Cert.GateUpRefIdeal.Read.val_main_call0_v2_apply, Cert.GateUpRefIdeal.Read.val_main_call0_cst_apply,
    Cert.GateUpRefIdeal.Read.val_main_call0_v1_apply, Cert.GateUpRefIdeal.Read.val_main_call0_v0_apply, gate_eq, up_eq, one_eq]
  show _ = Cert.GateUpVal.dot (Cert.GateUpVal.act x0 x1) x2 x3 x4 r c * Ideal.logistic (Cert.GateUpVal.dot (Cert.GateUpVal.act x0 x1) x2 x3 x4 r c)
    * Cert.GateUpVal.dot (Cert.GateUpVal.act x0 x1) x5 x6 x7 r c
  rfl

theorem algebraic : Cert.algebraic_GateUpIdeal_GateUpRefIdeal (hGateUpIdeal := Cert.GateUpIdeal.Gen.facts) (hGateUpRefIdeal := Cert.GateUpRefIdeal.Gen.facts) := by
  intro m g m' g' _ hargs
  refine ⟨fun c => Cert.GateUpVal.G (m (Thread.loc c.tc Cert.GateUpIdeal.main_arg0)) (m (Thread.loc c.tc Cert.GateUpIdeal.main_arg1)) (m (Thread.loc c.tc Cert.GateUpIdeal.main_arg2)) (m (Thread.loc c.tc Cert.GateUpIdeal.main_arg3)) (m (Thread.loc c.tc Cert.GateUpIdeal.main_arg4)) (m (Thread.loc c.tc Cert.GateUpIdeal.main_arg5)) (m (Thread.loc c.tc Cert.GateUpIdeal.main_arg6)) (m (Thread.loc c.tc Cert.GateUpIdeal.main_arg7)), ?_, ?_⟩
  · refine (θ_run _ _ _).mono (fun r h c => ?_) (Cert.GateUpIdeal.Value.run_blocks m g)
    obtain ⟨hv, hk⟩ := h c
    exact ⟨hv.trans (Cert.GateUpVal.arr m c), hk⟩
  · refine (θ_run _ _ _).mono (fun r h c => ?_) (Cert.GateUpRefIdeal.Value.run (F := Ideal) m' g')
    obtain ⟨hv, hk⟩ := h c
    refine ⟨hv.trans ?_, hk⟩
    obtain ⟨h0, h1, h2, h3, h4, h5, h6, h7⟩ := hargs c
    rw [Cert.GateUpRefIdeal.Read.val_main_v72_eq, h0, h1, h2, h3, h4, h5, h6, h7]
    exact value_eq _ _ _ _ _ _ _ _

/-- The reference leaves its arguments, and every semaphore counter at zero: it has none. -/
theorem refFrame : Cert.quiescent_GateUpRefIdeal (hGateUpRefIdeal := Cert.GateUpRefIdeal.Gen.facts) := fun m g _ =>
  (θ_run _ _ _).mono (fun r h => ⟨fun c => (h c).2, sem_eq_zero_of_no_sems rfl _⟩) (Cert.GateUpRefIdeal.Value.run (F := Ideal) m g)

end Cert.GateUpEq

end
-- ==== Proof.QkvBlock.lean ====
/-
  What one grid point of the projection to queries, keys and values leaves in its block and in the buffer of normalised activations.
-/
module

public import proofs.«01_k».proof.Proof.Chunk
public import proofs.«01_k».proof.Proof.Gen.QkvIdeal.Value

@[expose] public section

set_option maxRecDepth 16384

noncomputable section

namespace Cert.QkvVal

open Cert.QkvIdeal Cert.QkvIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → Nat) = fun _ => 0 := funext fun a => by fin_cases a <;> rfl

/-- One block of the product: its pieces added from the left. -/
def prod (x : Vec Ideal S128x8192 .bf16) (w : Vec Ideal S4096x512 .i8) (s : Vec Ideal S64x512 .bf16) (z : Vec Ideal S64x512 .i8) : FVec Ideal S128x512 .f32 :=
  Cert.Awq.pieces (K := 8192) (H := 4096) (G := 64) (by omega) (by omega) x w (k0_pay4 s) (k0_pay5 z) 31 (by omega)

/-- The buffer of normalised activations: two halves. -/
def buf (e g : Vec Ideal S128x4096 .f32) (ne ng : Vec Ideal S1x4096 .f32) : Vec Ideal S128x8192 .bf16 :=
  View.canon [⟨Rect.unit (s := S128x8192) ![0, 4096] S128x4096.size inb_S128x8192_S128x4096_0_4096, k0_pay3 g ng⟩,
    ⟨Rect.unit (s := S128x8192) ![0, 0] S128x4096.size inb_S128x8192_S128x4096_0_0, k0_pay2 e ne⟩]

/-- The first point leaves the normalised activations in the buffer. -/
theorem sout0_A_0_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .i8) (harg5 : arg5.IsWhole) (arg6 : Memref sig .tc .vmem S64x512 .bf16) (harg6 : arg6.IsWhole) (arg7 : Memref sig .tc .vmem S64x512 .i8) (harg7 : arg7.IsWhole) (arg8 : Memref sig .tc .vmem S128x512 .f32) (harg8 : arg8.IsWhole) (arg9 : Memref sig .tc .vmem S128x8192 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
       (x0 : Vec Ideal S128x4096 .f32) (x1 : Vec Ideal S128x4096 .f32) (x2 : Vec Ideal S1x4096 .f32) (x3 : Vec Ideal S1x4096 .f32) (x4 : Vec Ideal S4096x512 .i8) (x5 : Vec Ideal S64x512 .bf16) (x6 : Vec Ideal S64x512 .i8) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6
      = buf x0 x1 x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readCov_eq_canon', View.canon_cons_unit_zero (S := S64x2x512) hz3, View.readAt_eq_ld, harg1.read_unread, harg2.read_unread, harg3.read_unread, harg4.read_unread, harg5.read_unread, harg6.read_unread, harg7.read_unread, harg8.read_unread, harg9.read_unread, View.ld_unit_zero (S := S128x4096) hz, View.ld_unit_zero (S := S1x4096) hz, View.ld_unit_zero (S := S128x512) hz, View.ld_unit_zero (S := S64x512) hz, shapeCast_self]
  rfl

set_option maxHeartbeats 1000000 in
/-- The block that the first point leaves. -/
theorem out0_A_7_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .i8) (harg5 : arg5.IsWhole) (arg6 : Memref sig .tc .vmem S64x512 .bf16) (harg6 : arg6.IsWhole) (arg7 : Memref sig .tc .vmem S64x512 .i8) (harg7 : arg7.IsWhole) (arg8 : Memref sig .tc .vmem S128x512 .f32) (harg8 : arg8.IsWhole) (arg9 : Memref sig .tc .vmem S128x8192 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
       (x0 : Vec Ideal S128x4096 .f32) (x1 : Vec Ideal S128x4096 .f32) (x2 : Vec Ideal S1x4096 .f32) (x3 : Vec Ideal S1x4096 .f32) (x4 : Vec Ideal S4096x512 .i8) (x5 : Vec Ideal S64x512 .bf16) (x6 : Vec Ideal S64x512 .i8) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6
      = prod (buf x0 x1 x2 x3) x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readCov_eq_canon', View.canon_cons_unit_zero (S := S64x2x512) hz3, View.readAt_eq_ld, harg1.read_unread, harg2.read_unread, harg3.read_unread, harg4.read_unread, harg5.read_unread, harg6.read_unread, harg7.read_unread, harg8.read_unread, harg9.read_unread, View.ld_unit_zero (S := S128x4096) hz, View.ld_unit_zero (S := S1x4096) hz, View.ld_unit_zero (S := S128x512) hz, View.ld_unit_zero (S := S64x512) hz, shapeCast_self]
  rfl

set_option maxHeartbeats 1000000 in
/-- The block that a later point leaves. -/
theorem out0_B_7_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .i8) (harg5 : arg5.IsWhole) (arg6 : Memref sig .tc .vmem S64x512 .bf16) (harg6 : arg6.IsWhole) (arg7 : Memref sig .tc .vmem S64x512 .i8) (harg7 : arg7.IsWhole) (arg8 : Memref sig .tc .vmem S128x512 .f32) (harg8 : arg8.IsWhole) (arg9 : Memref sig .tc .vmem S128x8192 .bf16) (harg9 : arg9.IsWhole) (arg10 : Memref sig .tc .vmem S64x2x512 .bf16) (harg10 : arg10.IsWhole) (arg11 : Memref sig .tc .vmem S64x2x512 .bf16) (harg11 : arg11.IsWhole) (hc0 : ¬cond0_0 i)
       (x0 : Vec Ideal S128x4096 .f32) (x1 : Vec Ideal S128x4096 .f32) (x2 : Vec Ideal S1x4096 .f32) (x3 : Vec Ideal S1x4096 .f32) (x4 : Vec Ideal S4096x512 .i8) (x5 : Vec Ideal S64x512 .bf16) (x6 : Vec Ideal S64x512 .i8) (xs0 : Vec Ideal S128x8192 .bf16) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xs0
      = prod xs0 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero hz]
  simp only [View.readCov_eq_canon', View.canon_cons_unit_zero (S := S64x2x512) hz3, View.readAt_eq_ld, harg1.read_unread, harg2.read_unread, harg3.read_unread, harg4.read_unread, harg5.read_unread, harg6.read_unread, harg7.read_unread, harg8.read_unread, harg9.read_unread, View.ld_unit_zero (S := S128x4096) hz, View.ld_unit_zero (S := S1x4096) hz, View.ld_unit_zero (S := S128x512) hz, View.ld_unit_zero (S := S64x512) hz, shapeCast_self]
  rfl

end Cert.QkvVal

end
-- ==== Proof.QkvArray.lean ====
/-
  The array the projection to queries, keys and values leaves: its column blocks put together.
-/
module

public import proofs.«01_k».proof.Proof.QkvBlock
public import proofs.«01_k».proof.Proof.Norm
public import Idealize.ShloMosaic.Lib.Pipeline.ValueKit
public import Idealize.ShloMosaic.Lib.Claim

@[expose] public section

set_option maxRecDepth 16384

noncomputable section

namespace Cert.QkvVal

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- A zero point as a number. -/
def zero {s : Shape} (z : Vec Ideal s .i8) : s.Idx → EReal := fun i => FloatOps.sitofp (F := Ideal) .f32 ((z i).setWidth 32)

/-- The normalised activations: two halves. -/
def act (e g : Vec Ideal S128x4096 .f32) (ne ng : Vec Ideal S4096 .f32) : S128x8192.Idx → EReal := fun i =>
  if h : (i 1).val < 4096 then Cert.Norm.nrm e (fun k => ne (ix1 k)) (i 0) ⟨(i 1).val, h⟩
  else Cert.Norm.nrm g (fun k => ng (ix1 k)) (i 0) ⟨(i 1).val - 4096, by have h8 : (i 1).val < 8192 := (i 1).isLt; omega⟩

/-- The product over all rows. -/
def dot (x : S128x8192.Idx → EReal) (w : Vec Ideal S4096x6144 .i8) (s : Vec Ideal S64x6144 .bf16) (z : Vec Ideal S64x6144 .i8)
    (r : Fin 128) (c : Fin 6144) : EReal :=
  ∑ j ∈ Finset.range 8192, Cert.Awq.term (K := 8192) (H := 4096) (G := 64) (by omega) (by omega) x w s (zero z) r c j

/-- The result. -/
def G (e g : Vec Ideal S128x4096 .f32) (ne ng : Vec Ideal S4096 .f32) (w : Vec Ideal S4096x6144 .i8) (s : Vec Ideal S64x6144 .bf16)
    (z : Vec Ideal S64x6144 .i8) : Vec Ideal S128x6144 .f32 := fun i => dot (act e g ne ng) w s z (i 0) (i 1)

/-- The rows of words that the body keeps of the scales hold the scales. -/
theorem row_scale (v : Vec Ideal S64x512 .bf16) : Cert.Awq.row (k0_pay4 (F := Ideal) v) = v := by
  funext i
  obtain ⟨q, c, rfl⟩ : ∃ (q : Fin 64) (c : Fin 512), i = ix2 q c := ⟨i 0, i 1, eq_ix2 i⟩
  show k0_pay4 v (ix3 q 0 c) = _
  pointwise [k0_pay4]

/-- The rows of words that the body keeps of the zero points hold them as numbers. -/
theorem row_zero (v : Vec Ideal S64x512 .i8) : Cert.Awq.row (k0_pay5 (F := Ideal) v) = zero v := by
  funext i
  obtain ⟨q, c, rfl⟩ : ∃ (q : Fin 64) (c : Fin 512), i = ix2 q c := ⟨i 0, i 1, eq_ix2 i⟩
  show k0_pay5 v (ix3 q 0 c) = _
  pointwise [k0_pay5]
  rfl

theorem idx : ∀ t : Fin grid0.N, win0_0.index t = ![0, 0] ∧ win0_1.index t = ![0, 0] ∧ win0_2.index t = ![0, 0] ∧ win0_3.index t = ![0, 0]
    ∧ win0_4.index t = ![0, t.val] ∧ win0_5.index t = ![0, t.val] ∧ win0_6.index t = ![0, t.val] ∧ win0_7.index t = ![0, t.val] := by decide +kernel

/-- What the first point puts in the buffer's left half. -/
theorem pay2_eq (h : Vec Ideal S128x4096 .f32) (w : Vec Ideal S1x4096 .f32) : k0_pay2 h w = Cert.Norm.normed h w := by
  unfold k0_pay2 Cert.Norm.normed
  dsimp only
  rw [shapeCast_self]
  rfl

/-- What it puts in the right half. -/
theorem pay3_eq (h : Vec Ideal S128x4096 .f32) (w : Vec Ideal S1x4096 .f32) : k0_pay3 h w = Cert.Norm.normed h w := by
  unfold k0_pay3 Cert.Norm.normed
  dsimp only
  rw [shapeCast_self]
  rfl

/-- The buffer at an element. -/
theorem buf_apply (e g : Vec Ideal S128x4096 .f32) (ne ng : Vec Ideal S1x4096 .f32) (r : Fin 128) (j : Fin 8192) : buf e g ne ng (ix2 r j)
    = if h : j.val < 4096 then Cert.Norm.nrm e (fun k => ne (ix2 0 k)) r ⟨j.val, h⟩
      else Cert.Norm.nrm g (fun k => ng (ix2 0 k)) r ⟨j.val - 4096, by omega⟩ := by
  unfold buf
  by_cases h : j.val < 4096
  · rw [dif_pos h, View.canon_cons_of_not_mem _ _ (Rect.not_mem_set_of_axis _ _ 1 4096 4096 rfl rfl rfl (Or.inl h))]
    have e1 : (Rect.unit (s := S128x8192) ![0, 0] S128x4096.size inb_S128x8192_S128x4096_0_0).emb (ix2 r ⟨j.val, h⟩) = ix2 r j :=
      Rect.emb_eq_of_coords _ _ _ fun a => by
        match a with
        | ⟨0, _⟩ => show r.val = 0 + 1 * r.val; omega
        | ⟨1, _⟩ => show j.val = 0 + 1 * j.val; omega
    rw [← e1, View.canon_cons_emb, pay2_eq]
    exact Cert.Norm.normed_apply ..
  · rw [dif_neg h]
    have e1 : (Rect.unit (s := S128x8192) ![0, 4096] S128x4096.size inb_S128x8192_S128x4096_0_4096).emb (ix2 r ⟨j.val - 4096, by omega⟩) = ix2 r j :=
      Rect.emb_eq_of_coords _ _ _ fun a => by
        match a with
        | ⟨0, _⟩ => show r.val = 0 + 1 * r.val; omega
        | ⟨1, _⟩ => show j.val = 4096 + 1 * (j.val - 4096); omega
    rw [← e1, View.canon_cons_emb, pay3_eq]
    exact Cert.Norm.normed_apply ..

/-- The first point's normalised activations. -/
theorem act_eq (c : Dev nD) (t : Fin cfg0.N) : buf (iblk m c 0 t) (iblk m c 1 t) (iblk m c 2 t) (iblk m c 3 t)
    = act (m (Thread.loc c.tc main_arg0)) (m (Thread.loc c.tc main_arg1)) (m (Thread.loc c.tc main_arg2)) (m (Thread.loc c.tc main_arg3)) := by
  funext i
  obtain ⟨r, j, rfl⟩ : ∃ (r : Fin 128) (j : Fin 8192), i = ix2 r j := ⟨i 0, i 1, eq_ix2 i⟩
  obtain ⟨e0, e1, e2, e3, -⟩ := idx t
  rw [buf_apply]
  unfold act
  have a0 : (iblk m c 0 t : Vec Ideal S128x4096 .f32) = m (Thread.loc c.tc main_arg0) := funext fun i => by
    obtain ⟨r, j, rfl⟩ : ∃ (r : Fin 128) (j : Fin 4096), i = ix2 r j := ⟨i 0, i 1, eq_ix2 i⟩
    blk_ext [iblk, V, e0]
  have a1 : (iblk m c 1 t : Vec Ideal S128x4096 .f32) = m (Thread.loc c.tc main_arg1) := funext fun i => by
    obtain ⟨r, j, rfl⟩ : ∃ (r : Fin 128) (j : Fin 4096), i = ix2 r j := ⟨i 0, i 1, eq_ix2 i⟩
    blk_ext [iblk, V, e1]
  have a2 : (fun k => iblk m c 2 t (ix2 0 k) : Fin 4096 → EReal) = fun k => m (Thread.loc c.tc main_arg2) (ix1 k) := funext fun k => by
    blk_point [iblk, V, e2]
  have a3 : (fun k => iblk m c 3 t (ix2 0 k) : Fin 4096 → EReal) = fun k => m (Thread.loc c.tc main_arg3) (ix1 k) := funext fun k => by
    blk_point [iblk, V, e3]
  rw [a0, a1, a2, a3]
  rfl

/-- The buffer of normalised activations after every point. -/
theorem scr_eq (c : Dev nD) : ∀ (n : ℕ) (hn : n < cfg0.N), (outsAt0 m c n hn).2
    = act (m (Thread.loc c.tc main_arg0)) (m (Thread.loc c.tc main_arg1)) (m (Thread.loc c.tc main_arg2)) (m (Thread.loc c.tc main_arg3))
  | 0, hn => by
    refine (congrArg Prod.snd (outsAt0_A m c ⟨0, hn⟩ rfl)).trans ?_
    dsimp only
    rw [sout0_A_0_eq]
    exact act_eq m c ⟨0, hn⟩
  | n + 1, hn => by
    have hN : n + 1 < 12 := hn
    refine (congrArg Prod.snd (outsAt0_B m c ⟨n + 1, hn⟩ (by dsimp only; omega))).trans ?_
    exact scr_eq c n (Nat.lt_of_succ_lt hn)

/-- The block that a point leaves. -/
theorem block_eq (c : Dev nD) (t : Fin cfg0.N) : (outsAt0 m c t.val t.isLt).1
    = prod (act (m (Thread.loc c.tc main_arg0)) (m (Thread.loc c.tc main_arg1)) (m (Thread.loc c.tc main_arg2)) (m (Thread.loc c.tc main_arg3))) (iblk m c 4 t) (iblk m c 5 t) (iblk m c 6 t) := by
  by_cases h : t.val % 12 = 0
  · refine (congrArg Prod.fst (outsAt0_A m c t h)).trans ?_
    dsimp only
    rw [out0_A_7_eq, act_eq m c t]
  · refine (congrArg Prod.fst (outsAt0_B m c t h)).trans ?_
    dsimp only
    rw [out0_B_7_eq, scr_eq m c (t.val - 1)]

/-- A block's product at an element: over the arrays' columns. -/
theorem prod_apply (x : S128x8192.Idx → EReal) (w' : Vec Ideal S4096x512 .i8) (s' : Vec Ideal S64x512 .bf16) (z' : Vec Ideal S64x512 .i8)
    (w : Vec Ideal S4096x6144 .i8) (s : Vec Ideal S64x6144 .bf16) (z : Vec Ideal S64x6144 .i8) (r : Fin 128) (q : Fin 512) (c : Fin 6144)
    (hw : ∀ k : Fin 4096, w' (ix2 k q) = w (ix2 k c)) (hs : ∀ k : Fin 64, s' (ix2 k q) = s (ix2 k c)) (hz : ∀ k : Fin 64, z' (ix2 k q) = z (ix2 k c)) :
    prod x w' s' z' (ix2 r q) = dot x w s z r c := by
  unfold prod dot
  rw [Cert.Awq.pieces_apply, row_scale, row_zero]
  refine Finset.sum_congr rfl fun j hj => ?_
  have hj := Finset.mem_range.1 hj
  unfold Cert.Awq.term
  rw [dif_pos hj, dif_pos hj]
  unfold zero
  rw [hw, hs, hz]

theorem arr (c : Dev nD) : (dats m 0 c).arrAt 7 cfg0.N = G (m (Thread.loc c.tc main_arg0)) (m (Thread.loc c.tc main_arg1)) (m (Thread.loc c.tc main_arg2)) (m (Thread.loc c.tc main_arg3)) (m (Thread.loc c.tc main_arg4)) (m (Thread.loc c.tc main_arg5)) (m (Thread.loc c.tc main_arg6)) := by
  refine (dats m 0 c).arrAt_eq_of_covers 7 _ (by decide +kernel) fun t hf y => ?_
  blk_simp
  rw [after0_7, block_eq]
  obtain ⟨r, q, rfl⟩ : ∃ (r : Fin 128) (q : Fin 512), y = ix2 r q := ⟨y 0, y 1, eq_ix2 y⟩
  obtain ⟨e0, e1, e2, e3, e4, e5, e6, e7⟩ := idx t
  have h5 : t.val < 12 := t.isLt
  have hq := q.isLt
  have key : prod (act (m (Thread.loc c.tc main_arg0)) (m (Thread.loc c.tc main_arg1)) (m (Thread.loc c.tc main_arg2)) (m (Thread.loc c.tc main_arg3))) (iblk m c 4 t) (iblk m c 5 t) (iblk m c 6 t) (ix2 r q) = G (m (Thread.loc c.tc main_arg0)) (m (Thread.loc c.tc main_arg1)) (m (Thread.loc c.tc main_arg2)) (m (Thread.loc c.tc main_arg3)) (m (Thread.loc c.tc main_arg4)) (m (Thread.loc c.tc main_arg5)) (m (Thread.loc c.tc main_arg6)) (ix2 r ⟨t.val * 512 + q.val, by omega⟩) :=
    prod_apply _ _ _ _ (m (Thread.loc c.tc main_arg4)) (m (Thread.loc c.tc main_arg5)) (m (Thread.loc c.tc main_arg6)) r q ⟨t.val * 512 + q.val, by omega⟩
      (fun k => by blk_ext [iblk, V, e4]) (fun k => by blk_ext [iblk, V, e5]) (fun k => by blk_ext [iblk, V, e6])
  refine key.trans (congrArg _ (funext fun a => Fin.ext ?_))
  match a with
  | ⟨0, _⟩ => blk_ext [e7]
  | ⟨1, _⟩ => blk_ext [e7]

end Cert.QkvVal

end
-- ==== Proof.QkvRef.lean ====
/-
  What the reference of the projection to queries, keys and values computes, at an element.
-/
module

public import proofs.«01_k».proof.Proof.Norm
public import proofs.«01_k».proof.Proof.Gen.QkvRefIdeal.Read

@[expose] public section

set_option maxRecDepth 16384

noncomputable section

namespace Cert.QkvRefVal

open Cert.QkvRefIdeal Cert.QkvRefIdeal.Gen Cert.QkvRefIdeal.Read Idealize.ShloMosaic Idealize.ShloMosaic.TcCoe Idealize.SL.Sem

variable (x0 x1 : Vec Ideal S128x4096 .f32) (x2 x3 : Vec Ideal S4096 .f32)
  (x4 : Vec Ideal S4096x6144 .i8) (x5 : Vec Ideal S64x6144 .bf16) (x6 : Vec Ideal S64x6144 .i8)

/-- A zero point as a number. -/
def zero (z : Vec Ideal S64x6144 .i8) : S64x6144.Idx → EReal := fun i => FloatOps.sitofp (F := Ideal) .bf16 ((z i).setWidth 32)

/-- The normalised embedding. -/
theorem emb_apply (r : Fin 128) (j : Fin 4096) : val_main_v12 (F := Ideal) x0 x2 (ix2 r j) = Cert.Norm.nrm x0 (fun k => x2 (ix1 k)) r j := by
  rw [val_main_v12_apply, val_main_v9_apply, val_main_v8_apply, val_main_v7_apply, val_main_v6_apply, val_main_v4_apply, val_main_v2_apply, val_main_v1_apply, val_main_v3_apply, val_main_cst_0_apply, val_main_v5_apply, val_main_cst_1_apply, val_main_v11_apply, val_main_v10_apply]
  unfold Cert.Norm.nrm
  rw [show val_main_cst (F := Ideal) (Shape.Idx.first h_S_) = 0 from Ideal.ofBits_zero .f32, zero_add]
  refine congrArg₂ (· * ·) (congrArg₂ Ideal.div (congrArg _ ?_) ?_) ?_
  · rfl
  · refine congrArg (fun a : EReal => Ideal.sqrt (Ideal.div a (Scalar.ofBits (F := Ideal) .f32 0x45800000#32) + Scalar.ofBits (F := Ideal) .f32 0x3727C5AC#32)) (Finset.sum_congr rfl fun k _ => ?_)
    rw [val_main_v0_apply, show idx_main_v1 (idx_main_v2 (idx_main_v8 (ix2 r j))) k = ix2 r k from eq_ix2 _]
    rfl
  · refine congrArg x2 (funext fun a => ?_)
    match a with
    | ⟨0, _⟩ => rfl

/-- The normalised other half. -/
theorem oth_apply (r : Fin 128) (j : Fin 4096) : val_main_v25 (F := Ideal) x1 x3 (ix2 r j) = Cert.Norm.nrm x1 (fun k => x3 (ix1 k)) r j := by
  rw [val_main_v25_apply, val_main_v22_apply, val_main_v21_apply, val_main_v20_apply, val_main_v19_apply, val_main_v17_apply, val_main_v15_apply, val_main_v14_apply, val_main_v16_apply, val_main_cst_3_apply, val_main_v18_apply, val_main_cst_4_apply, val_main_v24_apply, val_main_v23_apply]
  unfold Cert.Norm.nrm
  rw [show val_main_cst_2 (F := Ideal) (Shape.Idx.first h_S_) = 0 from Ideal.ofBits_zero .f32, zero_add]
  refine congrArg₂ (· * ·) (congrArg₂ Ideal.div (congrArg _ ?_) ?_) ?_
  · rfl
  · refine congrArg (fun a : EReal => Ideal.sqrt (Ideal.div a (Scalar.ofBits (F := Ideal) .f32 0x45800000#32) + Scalar.ofBits (F := Ideal) .f32 0x3727C5AC#32)) (Finset.sum_congr rfl fun k _ => ?_)
    rw [val_main_v13_apply, show idx_main_v14 (idx_main_v15 (idx_main_v21 (ix2 r j))) k = ix2 r k from eq_ix2 _]
    rfl
  · refine congrArg x3 (funext fun a => ?_)
    match a with
    | ⟨0, _⟩ => rfl

/-- The weights of the low codes. -/
theorem low_apply (k : Fin 4096) (c : Fin 6144) : val_main_v42 (F := Ideal) x4 x5 x6 (ix2 k c)
    = (Cert.Awq.code (x4 (ix2 k c)) 0 - zero x6 (ix2 ⟨k.val / 64, by omega⟩ c)) * x5 (ix2 ⟨k.val / 64, by omega⟩ c) := by
  have hk := k.isLt
  have hc := c.isLt
  rw [val_main_v42_apply, val_main_v41_apply, val_main_v39_apply, val_main_v37_apply, val_main_v36_apply, val_main_v35_apply, val_main_v32_apply, val_main_v34_apply, val_main_c_apply, val_main_v38_apply, val_main_v30_apply, val_main_v29_apply, val_main_v28_apply, val_main_v40_apply, val_main_v31_apply]
  have e1 : idx_main_v37 (idx_main_v42 (ix2 k c)) = ix2 k c := funext fun a => Fin.ext (by
    match a with
    | ⟨0, _⟩ => show ((((k.val * 6144 + c.val) / 393216) * 64 + (k.val * 6144 + c.val) / 6144 % 64) * 6144 + (k.val * 6144 + c.val) % 6144) / 6144 = k.val; omega
    | ⟨1, _⟩ => show ((((k.val * 6144 + c.val) / 393216) * 64 + (k.val * 6144 + c.val) / 6144 % 64) * 6144 + (k.val * 6144 + c.val) % 6144) % 6144 = c.val; omega)
  have e2 : idx_main_v30 (idx_main_v38 (idx_main_v42 (ix2 k c))) = ix2 ⟨k.val / 64, by omega⟩ c := funext fun a => Fin.ext (by
    match a with
    | ⟨0, _⟩ => show (k.val * 6144 + c.val) / 393216 = k.val / 64; omega
    | ⟨1, _⟩ => show (k.val * 6144 + c.val) % 6144 = c.val; omega)
  have e3 : idx_main_v31 (idx_main_v40 (idx_main_v42 (ix2 k c))) = ix2 ⟨k.val / 64, by omega⟩ c := e2
  rw [e1, e2, e3]
  rfl

/-- The weights of the high codes. -/
theorem high_apply (k : Fin 4096) (c : Fin 6144) : val_main_v53 (F := Ideal) x4 x5 x6 (ix2 k c)
    = (Cert.Awq.code (x4 (ix2 k c)) 1 - zero x6 (ix2 ⟨k.val / 64, by omega⟩ c)) * x5 (ix2 ⟨k.val / 64, by omega⟩ c) := by
  have hk := k.isLt
  have hc := c.isLt
  rw [val_main_v53_apply, val_main_v52_apply, val_main_v50_apply, val_main_v48_apply, val_main_v47_apply, val_main_v46_apply, val_main_v32_apply, val_main_v45_apply, val_main_c_5_apply, val_main_v49_apply, val_main_v30_apply, val_main_v29_apply, val_main_v28_apply, val_main_v51_apply, val_main_v31_apply]
  have e1 : idx_main_v48 (idx_main_v53 (ix2 k c)) = ix2 k c := funext fun a => Fin.ext (by
    match a with
    | ⟨0, _⟩ => show ((((k.val * 6144 + c.val) / 393216) * 64 + (k.val * 6144 + c.val) / 6144 % 64) * 6144 + (k.val * 6144 + c.val) % 6144) / 6144 = k.val; omega
    | ⟨1, _⟩ => show ((((k.val * 6144 + c.val) / 393216) * 64 + (k.val * 6144 + c.val) / 6144 % 64) * 6144 + (k.val * 6144 + c.val) % 6144) % 6144 = c.val; omega)
  have e2 : idx_main_v30 (idx_main_v49 (idx_main_v53 (ix2 k c))) = ix2 ⟨k.val / 64, by omega⟩ c := funext fun a => Fin.ext (by
    match a with
    | ⟨0, _⟩ => show (k.val * 6144 + c.val) / 393216 = k.val / 64; omega
    | ⟨1, _⟩ => show (k.val * 6144 + c.val) % 6144 = c.val; omega)
  have e3 : idx_main_v31 (idx_main_v51 (idx_main_v53 (ix2 k c))) = ix2 ⟨k.val / 64, by omega⟩ c := e2
  rw [e1, e2, e3, shrsi_unit .host .vector]
  rfl

/-- The even columns of the left operand. -/
theorem even_apply (r : Fin 128) (k : Fin 4096) : val_main_v33 (F := Ideal) x0 x1 x2 x3 (ix2 r k) = val_main_v27 (F := Ideal) x0 x1 x2 x3 (ix2 r ⟨2 * k.val + 0, by omega⟩) := by
  unfold val_main_v33 Host.slice
  refine congrArg (val_main_v27 (F := Ideal) x0 x1 x2 x3) (funext fun a => Fin.ext ?_)
  match a with
  | ⟨0, _⟩ => show 0 + 1 * r.val = r.val; omega
  | ⟨1, _⟩ => show 0 + 2 * k.val = 2 * k.val + 0; omega

/-- The odd columns of the left operand. -/
theorem odd_apply (r : Fin 128) (k : Fin 4096) : val_main_v44 (F := Ideal) x0 x1 x2 x3 (ix2 r k) = val_main_v27 (F := Ideal) x0 x1 x2 x3 (ix2 r ⟨2 * k.val + 1, by omega⟩) := by
  unfold val_main_v44 Host.slice
  refine congrArg (val_main_v27 (F := Ideal) x0 x1 x2 x3) (funext fun a => Fin.ext ?_)
  match a with
  | ⟨0, _⟩ => show 0 + 1 * r.val = r.val; omega
  | ⟨1, _⟩ => show 1 + 2 * k.val = 2 * k.val + 1; omega

/-- The product: its even rows and its odd rows. -/
theorem dot_apply (r : Fin 128) (c : Fin 6144) : val_main_v55 (F := Ideal) x0 x1 x2 x3 x4 x5 x6 (ix2 r c)
    = Cert.Awq.half (K := 8192) (H := 4096) (G := 64) rfl (by omega) (val_main_v27 (F := Ideal) x0 x1 x2 x3) x4 x5 (zero x6) r c 0
        + Cert.Awq.half (K := 8192) (H := 4096) (G := 64) rfl (by omega) (val_main_v27 (F := Ideal) x0 x1 x2 x3) x4 x5 (zero x6) r c 1 := by
  rw [val_main_v55_apply, val_main_v43_apply, val_main_v54_apply]
  refine congrArg₂ (· + ·) ?_ ?_
  · refine Finset.sum_congr rfl fun k _ => ?_
    rw [show lidx_main_v43 (ix2 r c) k = ix2 r k from eq_ix2 _, show ridx_main_v43 (ix2 r c) k = ix2 k c from eq_ix2 _,
      even_apply, low_apply]
    rfl
  · refine Finset.sum_congr rfl fun k _ => ?_
    rw [show lidx_main_v54 (ix2 r c) k = ix2 r k from eq_ix2 _, show ridx_main_v54 (ix2 r c) k = ix2 k c from eq_ix2 _,
      odd_apply, high_apply]
    rfl

/-- The left operand: the two normalised halves side by side. -/
theorem act_apply (r : Fin 128) (j : Fin 8192) : val_main_v27 (F := Ideal) x0 x1 x2 x3 (ix2 r j)
    = if h : j.val < 4096 then Cert.Norm.nrm x0 (fun k => x2 (ix1 k)) r ⟨j.val, h⟩
      else Cert.Norm.nrm x1 (fun k => x3 (ix1 k)) r ⟨j.val - 4096, by omega⟩ := by
  rw [val_main_v27_apply]
  have e : val_main_v26 (F := Ideal) x0 x1 x2 x3 (ix2 r j) = if h : j.val < 4096 then val_main_v12 (F := Ideal) x0 x2 (ix2 r ⟨j.val, h⟩)
      else val_main_v25 (F := Ideal) x1 x3 (ix2 r ⟨j.val - 4096, by omega⟩) := by
    unfold val_main_v26
    generalize val_main_v12 (F := Ideal) x0 x2 = a
    generalize val_main_v25 (F := Ideal) x1 x3 = b
    pointwise []
  show val_main_v26 (F := Ideal) x0 x1 x2 x3 (ix2 r j) = _
  rw [e]
  by_cases h : j.val < 4096
  · rw [dif_pos h, dif_pos h, emb_apply]
  · rw [dif_neg h, dif_neg h, oth_apply]

end Cert.QkvRefVal

end
-- ==== Proof.QkvEq.lean ====
/-
  The projection to queries, keys and values and its reference leave the same array.
-/
module

public import proofs.«01_k».proof.Defs
public import proofs.«01_k».proof.Proof.QkvArray
public import proofs.«01_k».proof.Proof.QkvRef
public import Idealize.ShloMosaic.Lib.Quiescent

@[expose] public section

set_option maxRecDepth 16384

noncomputable section

namespace Cert.QkvEq

open Idealize.ShloMosaic Idealize.ShloMosaic.TcCoe Idealize.SL.Sem

/-- The kernel's value is the reference's, on the same arguments. -/
theorem value_eq (x0 x1 : Vec Ideal Cert.QkvIdeal.S128x4096 .f32) (x2 x3 : Vec Ideal Cert.QkvIdeal.S4096 .f32)
    (x4 : Vec Ideal Cert.QkvIdeal.S4096x6144 .i8) (x5 : Vec Ideal Cert.QkvIdeal.S64x6144 .bf16) (x6 : Vec Ideal Cert.QkvIdeal.S64x6144 .i8) :
    Cert.QkvRefIdeal.Read.val_main_v55 (F := Ideal) x0 x1 x2 x3 x4 x5 x6 = Cert.QkvVal.G x0 x1 x2 x3 x4 x5 x6 := by
  funext i
  obtain ⟨r, c, rfl⟩ : ∃ (r : Fin 128) (c : Fin 6144), i = ix2 r c := ⟨i 0, i 1, eq_ix2 i⟩
  have e : Cert.QkvRefIdeal.Read.val_main_v27 (F := Ideal) x0 x1 x2 x3 = Cert.QkvVal.act x0 x1 x2 x3 := funext fun i => by
    obtain ⟨r, j, rfl⟩ : ∃ (r : Fin 128) (j : Fin 8192), i = ix2 r j := ⟨i 0, i 1, eq_ix2 i⟩
    exact Cert.QkvRefVal.act_apply x0 x1 x2 x3 r j
  rw [Cert.QkvRefVal.dot_apply, e]
  exact (Cert.Awq.halves (K := 8192) (H := 4096) (G := 64) rfl (by omega) _ x4 x5 (Cert.QkvVal.zero x6) r c).symm

theorem algebraic : Cert.algebraic_QkvIdeal_QkvRefIdeal (hQkvIdeal := Cert.QkvIdeal.Gen.facts) (hQkvRefIdeal := Cert.QkvRefIdeal.Gen.facts) := by
  intro m g m' g' _ hargs
  refine ⟨fun c => Cert.QkvVal.G (m (Thread.loc c.tc Cert.QkvIdeal.main_arg0)) (m (Thread.loc c.tc Cert.QkvIdeal.main_arg1)) (m (Thread.loc c.tc Cert.QkvIdeal.main_arg2)) (m (Thread.loc c.tc Cert.QkvIdeal.main_arg3)) (m (Thread.loc c.tc Cert.QkvIdeal.main_arg4)) (m (Thread.loc c.tc Cert.QkvIdeal.main_arg5)) (m (Thread.loc c.tc Cert.QkvIdeal.main_arg6)), ?_, ?_⟩
  · refine (θ_run _ _ _).mono (fun r h c => ?_) (Cert.QkvIdeal.Value.run_blocks m g)
    obtain ⟨hv, hk⟩ := h c
    exact ⟨hv.trans (Cert.QkvVal.arr m c), hk⟩
  · refine (θ_run _ _ _).mono (fun r h c => ?_) (Cert.QkvRefIdeal.Value.run (F := Ideal) m' g')
    obtain ⟨hv, hk⟩ := h c
    refine ⟨hv.trans ?_, hk⟩
    obtain ⟨h0, h1, h2, h3, h4, h5, h6⟩ := hargs c
    rw [Cert.QkvRefIdeal.Read.val_main_v55_eq, h0, h1, h2, h3, h4, h5, h6]
    exact value_eq _ _ _ _ _ _ _

/-- The reference leaves its arguments, and every semaphore counter at zero: it has none. -/
theorem refFrame : Cert.quiescent_QkvRefIdeal (hQkvRefIdeal := Cert.QkvRefIdeal.Gen.facts) := fun m g _ =>
  (θ_run _ _ _).mono (fun r h => ⟨fun c => (h c).2, sem_eq_zero_of_no_sems rfl _⟩) (Cert.QkvRefIdeal.Value.run (F := Ideal) m g)

end Cert.QkvEq

end
-- ==== Proof.HeadBlock.lean ====
/-
  What one grid point of the head leaves in its buffers: the running maximum, the running sum, the group maxima, and at the last point
  the two results.
-/
module

public import proofs.«01_k».proof.Proof.Gen.HeadIdeal.Frame
public import Idealize.ShloMosaic.Lib.Pipeline.Value
public import Idealize.ShloMosaic.PureOps.Ideal.Laws

@[expose] public section

set_option maxRecDepth 16384

noncomputable section

namespace Cert.HeadVal

open Cert.HeadIdeal Cert.HeadIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → Nat) = fun _ => 0 := funext fun a => by fin_cases a <;> rfl

/-- The grid point's number as the body reads it. -/
def num (i : grid0.Coords) : BitVec 32 := BitVec.ofNat 32 (i 0).val

/-- The running maximum after a point. -/
def stepMx (x : Vec Ideal S128x4096 .bf16) (sc it : Vec Ideal S128x1 .f32) (w : Vec Ideal S640x4096 .i8) (hs : Vec Ideal S1x1x640 .f32)
    (mx : Vec Ideal S128x1 .f32) : Vec Ideal S128x1 .f32 := k0_pay14 (k0_pay11 x w sc hs it mx)

/-- The running sum after a point. -/
def stepSm (x : Vec Ideal S128x4096 .bf16) (sc it : Vec Ideal S128x1 .f32) (w : Vec Ideal S640x4096 .i8) (hs : Vec Ideal S1x1x640 .f32)
    (mx sm : Vec Ideal S128x1 .f32) : Vec Ideal S128x1 .f32 := k0_pay13 (k0_pay12 x w sc hs it mx sm mx)

/-- The group maxima after a point. -/
def stepGm (i : grid0.Coords) (x : Vec Ideal S128x4096 .bf16) (sc it : Vec Ideal S128x1 .f32) (w : Vec Ideal S640x4096 .i8)
    (hs : Vec Ideal S1x1x640 .f32) (gm : Vec Ideal S128x256 .f32) : Vec Ideal S128x256 .f32 :=
  k0_pay1 (num i) (k0_pay9 x w sc hs it) (iota .tc S128x256 32 [1] iota_S128x256_d1_w32) (k0_pay15 (num i) (k0_pay9 x w sc hs it) gm)
    (k0_pay16 (k0_pay9 x w sc hs it)) 5#32

/-- The running maximum before the first point. -/
def mx0 : Vec Ideal S128x1 .f32 := k0_pay6 (F := Ideal)

/-- The running sum before the first point. -/
def sm0 : Vec Ideal S128x1 .f32 := k0_pay7 (F := Ideal)

/-- The group maxima before the first point. -/
def gm0 : Vec Ideal S128x256 .f32 := k0_pay8 (F := Ideal)

set_option maxHeartbeats 1000000 in
/-- The first point keeps the codes as bfloat16. -/
theorem sA0 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4
      = k0_pay5 x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S128x4096) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]

set_option maxHeartbeats 1000000 in
/-- The group maxima after the first point. -/
theorem sA1 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4
      = stepGm i (k0_pay5 x0) x1 x2 x3 x4 gm0 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S128x256) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The running maximum after the first point. -/
theorem sA2 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 x4
      = stepMx (k0_pay5 x0) x1 x2 x3 x4 mx0 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The running sum after the first point. -/
theorem sA3 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) :
    sout0_A_3 c i arg1 harg1 arg2 harg2 arg3 harg3 arg4 harg4 arg5 harg5 arg6 harg6 arg7 harg7 arg8 harg8 arg9 harg9 arg10 harg10 arg11 harg11 hc0 hc1 x0 x1 x2 x3 x4
      = stepSm (k0_pay5 x0) x1 x2 x3 x4 mx0 sm0 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The group maxima after a middle point. -/
theorem sB1 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = stepGm i xs0 x1 x2 x3 x4 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_cons_unit_zero (S := S128x256) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The running maximum after a middle point. -/
theorem sB2 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = stepMx xs0 x1 x2 x3 x4 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The running sum after a middle point. -/
theorem sB3 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : ¬cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    sout0_B_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = stepSm xs0 x1 x2 x3 x4 xs2 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The group maxima after the last point. -/
theorem sC1 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = stepGm i xs0 x1 x2 x3 x4 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_cons_unit_zero (S := S128x256) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The running maximum after the last point. -/
theorem sC2 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    sout0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = stepMx xs0 x1 x2 x3 x4 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The running sum after the last point. -/
theorem sC3 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    sout0_C_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = stepSm xs0 x1 x2 x3 x4 xs2 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The group maxima that the last point leaves. -/
theorem oC5 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    out0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = k0_pay4 (stepMx xs0 x1 x2 x3 x4 xs2) (stepSm xs0 x1 x2 x3 x4 xs2 xs3) (stepGm i xs0 x1 x2 x3 x4 xs1) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_cons_unit_zero (S := S128x256) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

set_option maxHeartbeats 1000000 in
/-- The log-sum-exp that the last point leaves. -/
theorem oC6 (c : Dev nD) (i : grid0.Coords) (arg1 : Memref sig .tc .vmem S128x4096 .i8) (harg1 : arg1.IsWhole) (arg2 : Memref sig .tc .vmem S128x1 .f32) (harg2 : arg2.IsWhole) (arg3 : Memref sig .tc .vmem S128x1 .f32) (harg3 : arg3.IsWhole) (arg4 : Memref sig .tc .vmem S640x4096 .i8) (harg4 : arg4.IsWhole) (arg5 : Memref sig .tc .vmem S1x1x640 .f32) (harg5 : arg5.IsWhole) (arg6 : Memref sig .tc .vmem S128x256 .f32) (harg6 : arg6.IsWhole) (arg7 : Memref sig .tc .vmem S128x1 .f32) (harg7 : arg7.IsWhole) (arg8 : Memref sig .tc .vmem S128x4096 .bf16) (harg8 : arg8.IsWhole) (arg9 : Memref sig .tc .vmem S128x256 .f32) (harg9 : arg9.IsWhole) (arg10 : Memref sig .tc .vmem S128x1 .f32) (harg10 : arg10.IsWhole) (arg11 : Memref sig .tc .vmem S128x1 .f32) (harg11 : arg11.IsWhole) (hc0 : ¬cond0_0 i) (hc1 : cond0_1 i)
       (x0 : Vec Ideal S128x4096 .i8) (x1 : Vec Ideal S128x1 .f32) (x2 : Vec Ideal S128x1 .f32) (x3 : Vec Ideal S640x4096 .i8) (x4 : Vec Ideal S1x1x640 .f32) (xs0 : Vec Ideal S128x4096 .bf16) (xs1 : Vec Ideal S128x256 .f32) (xs2 : Vec Ideal S128x1 .f32) (xs3 : Vec Ideal S128x1 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3
      = k0_pay3 (stepMx xs0 x1 x2 x3 x4 xs2) (stepSm xs0 x1 x2 x3 x4 xs2 xs3) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_cons_unit_zero (S := S128x1) hz]
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x4096) hz, View.ld_unit_zero (S := S128x1) hz, View.ld_unit_zero (S := S640x4096) hz, View.ld_unit_zero (S := S128x256) hz, View.ld_unit_zero (S := S1x1x640) hz3]
  rfl

end Cert.HeadVal

end
-- ==== Proof.HeadMath.lean ====
/-
  The log-sum-exp identities of the head, over the extended reals: a running maximum with a rescaled running sum of powers of
  two gives the same result as the maximum of all entries and one sum.
-/
module

public import Idealize.ShloMosaic.PureOps.Ideal.Laws

@[expose] public section

noncomputable section

namespace Cert.HeadMath

open Idealize.ShloMosaic

/-- The base-two logarithm, as a quotient of natural logarithms. -/
def lg (x : EReal) : EReal := Ideal.div (Ideal.log x) (Ideal.log ((2 : ℝ) : EReal))

/-- Rounding up keeps the order. -/
theorem ceil_mono : Monotone (Ideal.liftRound Int.ceil) := by
  intro a b h
  induction a using EReal.rec with
  | bot => exact bot_le
  | top => rw [top_le_iff.1 h]
  | coe a =>
    induction b using EReal.rec with
    | bot => exact absurd h (by simp)
    | top => exact le_top
    | coe b =>
      rw [Ideal.liftRound_coe, Ideal.liftRound_coe]
      exact EReal.coe_le_coe_iff.2 (Int.cast_le.2 (Int.ceil_mono (EReal.coe_le_coe_iff.1 h)))

theorem exp2_nonneg (x : EReal) : 0 ≤ Ideal.exp2 x := by
  induction x using EReal.rec with
  | bot => exact le_refl 0
  | top => exact le_top
  | coe r => exact EReal.coe_nonneg.2 (Real.rpow_nonneg (by norm_num) r)

/-- Moving the reference point of one power of two. -/
theorem exp2_shift (a m n : EReal) (hm : m ≠ ⊥) (h : m ≤ n) :
    Ideal.exp2 (a - m) * Ideal.exp2 (m - n) = Ideal.exp2 (a - n) := by
  induction n using EReal.rec with
  | bot => exact absurd (le_bot_iff.1 h) hm
  | top =>
    rw [EReal.sub_top, EReal.sub_top, Ideal.exp2_bot, mul_zero]
  | coe n =>
    induction m using EReal.rec with
    | bot => exact absurd rfl hm
    | top => exact absurd (top_le_iff.1 h) (EReal.coe_ne_top n)
    | coe m =>
      induction a using EReal.rec with
      | bot => rw [EReal.bot_sub, EReal.bot_sub, Ideal.exp2_bot, zero_mul]
      | top =>
        rw [EReal.top_sub_coe, EReal.top_sub_coe, ← EReal.coe_sub, Ideal.exp2_top, Ideal.exp2_coe]
        exact EReal.top_mul_coe_of_pos (Real.rpow_pos_of_pos (by norm_num) _)
      | coe a =>
        rw [← EReal.coe_sub, ← EReal.coe_sub, ← EReal.coe_sub, Ideal.exp2_coe, Ideal.exp2_coe, Ideal.exp2_coe, ← EReal.coe_mul]
        refine congrArg _ ?_
        rw [show a - n = (a - m) + (m - n) by ring]
        exact (Real.rpow_add (by norm_num : (0 : ℝ) < 2) _ _).symm

/-- Moving the reference point of a sum of powers of two. -/
theorem sum_shift {ι : Type*} (s : Finset ι) (l : ι → EReal) (m n : EReal) (hm : m ≠ ⊥) (h : m ≤ n) :
    (∑ j ∈ s, Ideal.exp2 (l j - m)) * Ideal.exp2 (m - n) = ∑ j ∈ s, Ideal.exp2 (l j - n) := by
  classical
  induction s using Finset.induction_on with
  | empty => rw [Finset.sum_empty, Finset.sum_empty, zero_mul]
  | insert a s ha ih =>
    rw [Finset.sum_insert ha, Finset.sum_insert ha,
      EReal.right_distrib_of_nonneg (exp2_nonneg _) (Finset.sum_nonneg fun _ _ => exp2_nonneg _), ih, exp2_shift _ _ _ hm h]

/-- A power of two as a real number. -/
def pw (x : EReal) : ℝ := (Ideal.exp2 x).toReal

theorem exp2_sub (x : EReal) (hx : x ≠ ⊤) (m : ℝ) : Ideal.exp2 (x - m) = ((pw x * (2 : ℝ) ^ (-m) : ℝ) : EReal) := by
  induction x using EReal.rec with
  | bot => rw [EReal.bot_sub, Ideal.exp2_bot, pw, Ideal.exp2_bot, EReal.toReal_zero, zero_mul, EReal.coe_zero]
  | top => exact absurd rfl hx
  | coe a =>
    rw [← EReal.coe_sub, Ideal.exp2_coe, pw, Ideal.exp2_coe, EReal.toReal_coe, sub_eq_add_neg]
    exact congrArg _ (Real.rpow_add (by norm_num : (0 : ℝ) < 2) _ _)

theorem pw_nonneg (x : EReal) : 0 ≤ pw x := EReal.toReal_nonneg (exp2_nonneg x)

theorem sum_real {ι : Type*} (s : Finset ι) (l : ι → EReal) (hl : ∀ j ∈ s, l j ≠ ⊤) (m : ℝ) :
    ∑ j ∈ s, Ideal.exp2 (l j - m) = (((∑ j ∈ s, pw (l j)) * (2 : ℝ) ^ (-m) : ℝ) : EReal) := by
  classical
  induction s using Finset.induction_on with
  | empty => simp
  | insert a s ha ih =>
    rw [Finset.sum_insert ha, Finset.sum_insert ha, ih fun j hj => hl j (Finset.mem_insert_of_mem hj),
      exp2_sub _ (hl a (Finset.mem_insert_self a s)), ← EReal.coe_add, add_mul]

theorem log2_real : Ideal.log ((2 : ℝ) : EReal) = ((Real.log 2 : ℝ) : EReal) := by
  show (if (2 : ℝ) ≤ 0 then (⊥ : EReal) else (Real.log 2 : EReal)) = _
  rw [if_neg (by norm_num)]

theorem lg_zero : lg 0 = ⊥ := by
  have h2 : (0 : ℝ) < Real.log 2 := Real.log_pos (by norm_num)
  have h0 : Ideal.log 0 = ⊥ := by
    show (if (0 : ℝ) ≤ 0 then (⊥ : EReal) else _) = ⊥
    rw [if_pos le_rfl]
  rw [lg, h0, log2_real, Ideal.div, if_neg (by rw [← EReal.coe_zero]; exact fun h => h2.ne' (EReal.coe_eq_coe_iff.1 h)), ← EReal.coe_inv]
  exact EReal.bot_mul_coe_of_pos (inv_pos.2 h2)

theorem lg_real (r : ℝ) (hr : 0 < r) : lg (r : EReal) = ((Real.log r / Real.log 2 : ℝ) : EReal) := by
  have h2 : (0 : ℝ) < Real.log 2 := Real.log_pos (by norm_num)
  have h0 : Ideal.log (r : EReal) = ((Real.log r : ℝ) : EReal) := by
    show (if r ≤ 0 then (⊥ : EReal) else _) = _
    rw [if_neg (not_le.2 hr)]
  rw [lg, h0, log2_real, Ideal.div, if_neg (by rw [← EReal.coe_zero]; exact fun h => h2.ne' (EReal.coe_eq_coe_iff.1 h)), ← EReal.coe_inv,
    ← EReal.coe_mul, div_eq_mul_inv]

/-- At a real reference point the log-sum-exp does not depend on it. -/
theorem lse_real {ι : Type*} (s : Finset ι) (l : ι → EReal) (hl : ∀ j ∈ s, l j ≠ ⊤) (m n : ℝ) :
    (m : EReal) + lg (∑ j ∈ s, Ideal.exp2 (l j - m)) = n + lg (∑ j ∈ s, Ideal.exp2 (l j - n)) := by
  rw [sum_real s l hl, sum_real s l hl]
  have hR : 0 ≤ ∑ j ∈ s, pw (l j) := Finset.sum_nonneg fun j _ => pw_nonneg (l j)
  generalize (∑ j ∈ s, pw (l j)) = R at hR ⊢
  rcases hR.eq_or_lt with h | h
  · rw [← h, zero_mul, zero_mul, EReal.coe_zero, lg_zero, EReal.add_bot, EReal.add_bot]
  · have key : ∀ k : ℝ, (k : EReal) + lg ((R * (2 : ℝ) ^ (-k) : ℝ) : EReal) = ((Real.log R / Real.log 2 : ℝ) : EReal) := fun k => by
      have h2 : Real.log 2 ≠ 0 := (Real.log_pos (by norm_num)).ne'
      have hp : (0 : ℝ) < (2 : ℝ) ^ (-k) := Real.rpow_pos_of_pos (by norm_num) _
      rw [lg_real _ (mul_pos h hp), ← EReal.coe_add, Real.log_mul h.ne' hp.ne', Real.log_rpow (by norm_num)]
      refine congrArg _ ?_
      field_simp
      ring
    rw [key, key]

/-- The log-sum-exp from any real starting maximum is the one from the entries' maximum rounded up. -/
theorem lse_start {ι : Type*} (s : Finset ι) (l : ι → EReal) (m0 : ℝ) (M : EReal) (hM : ∀ j ∈ s, l j ≤ M) :
    max (m0 : EReal) (Ideal.liftRound Int.ceil M) + lg (∑ j ∈ s, Ideal.exp2 (l j - max (m0 : EReal) (Ideal.liftRound Int.ceil M)))
      = Ideal.liftRound Int.ceil M + lg (∑ j ∈ s, Ideal.exp2 (l j - Ideal.liftRound Int.ceil M)) := by
  rcases le_total (m0 : EReal) (Ideal.liftRound Int.ceil M) with h | h
  · rw [max_eq_right h]
  · rw [max_eq_left h]
    induction M using EReal.rec with
    | bot =>
      have e : ∑ j ∈ s, Ideal.exp2 (l j - (m0 : EReal)) = 0 := Finset.sum_eq_zero fun j hj => by
        rw [le_bot_iff.1 (hM j hj), EReal.bot_sub, Ideal.exp2_bot]
      rw [e, lg_zero, EReal.add_bot, Ideal.liftRound_bot, EReal.bot_add]
    | top =>
      rw [Ideal.liftRound_top] at h
      exact absurd (top_le_iff.1 h) (EReal.coe_ne_top m0)
    | coe M =>
      rw [Ideal.liftRound_coe]
      exact lse_real s l (fun j hj e => EReal.coe_ne_top M (top_le_iff.1 (e ▸ hM j hj))) _ _

/-- One block more: the running sum rescaled to the new maximum, plus the block's own sum. -/
theorem sum_step (l : ℕ → EReal) (m n : EReal) (hm : m ≠ ⊥) (h : m ≤ n) (a b : ℕ) :
    (∑ j ∈ Finset.range a, Ideal.exp2 (l j - m)) * Ideal.exp2 (m - n) + ∑ k ∈ Finset.range b, Ideal.exp2 (l (a + k) - n)
      = ∑ j ∈ Finset.range (a + b), Ideal.exp2 (l j - n) := by
  rw [sum_shift _ _ _ _ hm h, Finset.sum_range_add]

/-- One block more: the running maximum. -/
theorem max_step (l : ℕ → EReal) (m0 : EReal) (a b : ℕ) :
    max (max m0 (Ideal.liftRound Int.ceil ((Finset.range a).sup l))) (Ideal.liftRound Int.ceil ((Finset.range b).sup fun k => l (a + k)))
      = max m0 (Ideal.liftRound Int.ceil ((Finset.range (a + b)).sup l)) := by
  rw [max_assoc, ← ceil_mono.map_max]
  refine congrArg (fun x => max m0 (Ideal.liftRound Int.ceil x)) (le_antisymm ?_ ?_)
  · refine max_le (Finset.sup_mono (Finset.range_mono (by omega))) (Finset.sup_le fun k hk => ?_)
    exact Finset.le_sup (f := l) (Finset.mem_range.2 (by have := Finset.mem_range.1 hk; omega))
  · refine Finset.sup_le fun j hj => ?_
    by_cases hja : j < a
    · exact le_max_of_le_left (Finset.le_sup (f := l) (Finset.mem_range.2 hja))
    · refine le_max_of_le_right ?_
      have := Finset.le_sup (f := fun k => l (a + k)) (s := Finset.range b) (b := j - a) (Finset.mem_range.2 (by have := Finset.mem_range.1 hj; omega))
      simpa [show a + (j - a) = j by omega] using this

/-- Subtracting one number from all entries of a group subtracts it from the group's maximum. -/
theorem sup_sub {ι : Type*} (s : Finset ι) (hs : s.Nonempty) (f : ι → EReal) (c : EReal) :
    s.sup f - c = s.sup fun j => f j - c := by
  refine le_antisymm ?_ (Finset.sup_le fun j hj => EReal.sub_le_sub (Finset.le_sup hj) le_rfl)
  obtain ⟨j, hj, e⟩ := Finset.exists_mem_eq_sup s hs f
  rw [e]
  exact Finset.le_sup (f := fun j => f j - c) hj

end Cert.HeadMath

end
-- ==== Proof.HeadStep.lean ====
/-
  The head's running maximum, running sum and group maxima after each grid point, in terms of the whole arrays.
-/
module

public import proofs.«01_k».proof.Proof.HeadBlock
public import proofs.«01_k».proof.Proof.HeadMath
public import Idealize.ShloMosaic.Lib.Pointwise

@[expose] public section

set_option maxRecDepth 16384

noncomputable section

namespace Cert.HeadVal

open Cert.HeadIdeal Cert.HeadIdeal.Gen Idealize.ShloMosaic Idealize.ShloMosaic.TcCoe Idealize.SL.Sem
open Cert.HeadMath

/-- The maximum over a block's columns, over naturals. -/
theorem sup_fin (n : ℕ) (f : Fin n → EReal) (g : ℕ → EReal) (h : ∀ k : Fin n, f k = g k.val) :
    (Finset.univ : Finset (Fin n)).fold max ⊥ f = (Finset.range n).sup g := by
  show Finset.univ.sup f = _
  refine le_antisymm (Finset.sup_le fun k _ => ?_) (Finset.sup_le fun k hk => ?_)
  · rw [h]
    exact Finset.le_sup (f := g) (Finset.mem_range.2 k.isLt)
  · have e := h ⟨k, Finset.mem_range.1 hk⟩
    dsimp only at e
    rw [← e]
    exact Finset.le_sup (f := f) (Finset.mem_univ _)

theorem word_bot : Ideal.ofBits .f32 0xFF800000#32 = ⊥ := by simp [Ideal.ofBits, Ideal.ieee]

theorem word_two : Ideal.ofBits .f32 0x40000000#32 = ((2 : ℝ) : EReal) := by
  simp [Ideal.ofBits, Ideal.ieee]
  rw [← EReal.coe_mul]
  norm_num

/-- What the running maximum starts from. -/
def start : EReal := Ideal.ofBits .f32 0xF149F2CA#32

theorem start_real : ∃ v : ℝ, start = (v : EReal) := by
  unfold start
  simp [Ideal.ofBits, Ideal.ieee]
  exact ⟨_, rfl⟩

/-- A code as a number. -/
def num8 (b : BitVec 8) : EReal := FloatOps.sitofp (F := Ideal) .bf16 b

/-- A logit. -/
def logit (codes : S128x4096.Idx → BitVec 8) (sc it : S128x1.Idx → EReal) (w : S32000x4096.Idx → BitVec 8) (hs : Fin 32000 → EReal)
    (r : Fin 128) (j : ℕ) : EReal :=
  if h : j < 32000 then (∑ k : Fin 4096, num8 (codes (ix2 r k)) * num8 (w (ix2 ⟨j, h⟩ k))) * sc (ix2 r 0) * hs ⟨j, h⟩ * it (ix2 r 0) else 0

/-- In powers of two. -/
def two (l : ℕ → EReal) (j : ℕ) : EReal := l j * Ideal.ofBits .f32 0x3FB8AA3B#32

/-- The running maximum after `a` blocks. -/
def Mx (l : Fin 128 → ℕ → EReal) (a : ℕ) : Vec Ideal S128x1 .f32 := fun i =>
  max start (Ideal.liftRound Int.ceil ((Finset.range (640 * a)).sup (two (l (i 0)))))

/-- The running sum after `a` blocks. -/
def Sm (l : Fin 128 → ℕ → EReal) (a : ℕ) : Vec Ideal S128x1 .f32 := fun i =>
  ∑ j ∈ Finset.range (640 * a), Ideal.exp2 (two (l (i 0)) j - Mx l a i)

/-- A group's maximum. -/
def gmax (l : ℕ → EReal) (q : ℕ) : EReal := (Finset.range 128).sup fun k => l (128 * q + k)

/-- The group maxima after `a` blocks. -/
def Gm (l : Fin 128 → ℕ → EReal) (a : ℕ) : Vec Ideal S128x256 .f32 := fun i => if (i 1).val < 5 * a then gmax (l (i 0)) (i 1).val else 0

theorem mx0_eq (l : Fin 128 → ℕ → EReal) : mx0 = Mx l 0 := by
  funext i
  obtain ⟨r, c, rfl⟩ : ∃ (r : Fin 128) (c : Fin 1), i = ix2 r c := ⟨i 0, i 1, eq_ix2 i⟩
  have e : mx0 (ix2 r c) = start := by
    pointwise [mx0, k0_pay6]
    rfl
  rw [e]
  unfold Mx
  rw [Nat.mul_zero, Finset.range_zero, Finset.sup_empty]
  exact (max_eq_left bot_le).symm

theorem sm0_eq (l : Fin 128 → ℕ → EReal) : sm0 = Sm l 0 := by
  funext i
  obtain ⟨r, c, rfl⟩ : ∃ (r : Fin 128) (c : Fin 1), i = ix2 r c := ⟨i 0, i 1, eq_ix2 i⟩
  have e : sm0 (ix2 r c) = 0 := by pointwise [sm0, k0_pay7]
  rw [e]
  unfold Sm
  rw [Nat.mul_zero, Finset.range_zero, Finset.sum_empty]

theorem gm0_eq (l : Fin 128 → ℕ → EReal) : gm0 = Gm l 0 := by
  funext i
  obtain ⟨r, c, rfl⟩ : ∃ (r : Fin 128) (c : Fin 256), i = ix2 r c := ⟨i 0, i 1, eq_ix2 i⟩
  have e : gm0 (ix2 r c) = 0 := by pointwise [gm0, k0_pay8]
  rw [e]
  unfold Gm
  rw [if_neg (by omega)]

section Step

variable (l : Fin 128 → ℕ → EReal) (a : ℕ) (x : Vec Ideal S128x4096 .bf16) (sc it : Vec Ideal S128x1 .f32) (w : Vec Ideal S640x4096 .i8)
  (hs : Vec Ideal S1x1x640 .f32)

/-- A block's logit at an element. -/
theorem pay9_apply (r : Fin 128) (q : Fin 640) : k0_pay9 x w sc hs it (ix2 r q)
    = (∑ k : Fin 4096, x (ix2 r k) * num8 (w (ix2 q k))) * sc (ix2 r 0) * hs (ix3 0 0 q) * it (ix2 r 0) := by
  pointwise [k0_pay9]
  rfl

variable (hl : ∀ (r : Fin 128) (q : Fin 640), k0_pay9 x w sc hs it (ix2 r q) = l r (640 * a + q.val))

include hl in
theorem pay10_apply (r : Fin 128) (q : Fin 640) : k0_pay10 x w sc hs it (ix2 r q) = two (l r) (640 * a + q.val) := by
  unfold k0_pay10
  pointwise []
  rw [hl]
  rfl

theorem col (i : S128x1.Idx) : ∃ r : Fin 128, i = ix2 r 0 := ⟨i 0, (eq_ix2 i).trans (congrArg (ix2 (i 0)) (Subsingleton.elim (α := Fin 1) _ _))⟩

include hl in
theorem pay11_eq : k0_pay11 x w sc hs it (Mx l a) = Mx l (a + 1) := by
  funext i
  obtain ⟨r, rfl⟩ := col i
  pointwise [k0_pay11]
  rw [word_bot, sup_fin 640 _ (fun k => two (l r) (640 * a + k)) fun k => pay10_apply l a x sc it w hs hl r k]
  exact max_step (two (l r)) start (640 * a) 640

include hl in
theorem stepMx_eq : stepMx x sc it w hs (Mx l a) = Mx l (a + 1) := by
  unfold stepMx k0_pay14
  rw [shapeCast_self]
  exact pay11_eq l a x sc it w hs hl

theorem Mx_ne_bot (i : S128x1.Idx) : Mx l a i ≠ ⊥ := by
  obtain ⟨v, hv⟩ := start_real
  intro h
  have h1 : start ≤ Mx l a i := le_max_left _ _
  rw [h, hv, le_bot_iff] at h1
  exact EReal.coe_ne_bot v h1

theorem Mx_mono (i : S128x1.Idx) : Mx l a i ≤ Mx l (a + 1) i :=
  max_le_max le_rfl (ceil_mono (Finset.sup_mono (Finset.range_mono (by omega))))

include hl in
theorem stepSm_eq : stepSm x sc it w hs (Mx l a) (Sm l a) = Sm l (a + 1) := by
  funext i
  obtain ⟨r, rfl⟩ := col i
  unfold stepSm k0_pay13
  rw [shapeCast_self]
  pointwise [k0_pay12]
  rw [pay11_eq l a x sc it w hs hl]
  rw [show (∑ q : Fin 640, FloatOps.exp2 (F := Ideal) (k0_pay10 x w sc hs it (ix2 r q) - Mx l (a + 1) (ix2 r 0)))
      = ∑ k ∈ Finset.range 640, Ideal.exp2 (two (l r) (640 * a + k) - Mx l (a + 1) (ix2 r 0)) by
    rw [Finset.sum_range]
    exact Finset.sum_congr rfl fun q _ => by rw [pay10_apply l a x sc it w hs hl r q]; rfl]
  exact sum_step (two (l r)) (Mx l a (ix2 r 0)) (Mx l (a + 1) (ix2 r 0)) (Mx_ne_bot l a _) (Mx_mono l a _) (640 * a) 640

/-- The lane that a group's maximum goes to. -/
theorem lane (q : Fin 256) (n : ℕ) (hn : n < 5) (ha : a < 50) (A B : EReal) :
    Scalar.select (IntOp.cmpi CmpIPredicate.eq (BitVec.ofNat 32 q.val) (Scalar.addi (Scalar.muli (BitVec.ofNat 32 a) 5#32) (BitVec.ofNat 32 n))) A B
      = if q.val = 5 * a + n then A else B := by
  have hq := q.isLt
  have e : (BitVec.ofNat 32 q.val = BitVec.ofNat 32 a * 5#32 + BitVec.ofNat 32 n) ↔ q.val = 5 * a + n := by
    rw [← BitVec.toNat_inj]
    simp only [BitVec.toNat_ofNat, BitVec.toNat_add, BitVec.toNat_mul]
    omega
  have e' : ∀ x y : BitVec 32, Scalar.select (IntOp.cmpi CmpIPredicate.eq x y) A B = if x = y then A else B := fun x y => by
    unfold Scalar.select IntOp.cmpi
    by_cases h : x = y
    · simp [h]
    · have h' : (x == y) = false := by simpa using h
      simp [h, h']
  refine (e' _ _).trans ?_
  by_cases h : q.val = 5 * a + n
  · rw [if_pos h]
    exact if_pos (e.2 h)
  · rw [if_neg h]
    exact if_neg fun h' => h (e.1 h')

include hl in
theorem stepGm_eq (i : grid0.Coords) (hi : (i 0).val = a) (ha : a < 50) : stepGm i x sc it w hs (Gm l a) = Gm l (a + 1) := by
  funext j
  obtain ⟨r, q, rfl⟩ : ∃ (r : Fin 128) (q : Fin 256), j = ix2 r q := ⟨j 0, j 1, eq_ix2 j⟩
  unfold stepGm num
  rw [hi]
  revert hl
  generalize k0_pay9 x w sc hs it = y
  intro hl
  pointwise [k0_pay1, k0_pay15, k0_pay16]
  rw [lane a q 4 (by omega) ha, lane a q 3 (by omega) ha, lane a q 2 (by omega) ha, lane a q 1 (by omega) ha, lane a q 0 (by omega) ha, word_bot]
  have g (n : ℕ) (f : Fin 128 → EReal) (hf : ∀ k : Fin 128, f k = l r (640 * a + (128 * n + k.val))) (hq : q.val = 5 * a + n) :
      (Finset.univ : Finset (Fin 128)).fold max ⊥ f = gmax (l r) q.val :=
    sup_fin 128 f (fun k => l r (128 * q.val + k)) fun k => (hf k).trans (congrArg (l r) (by rw [hq]; ring))
  have g0 (hq : q.val = 5 * a + 0) : (Finset.univ : Finset (Fin 128)).fold max ⊥ (fun k : Fin 128 => y (ix2 r ⟨k.val, by omega⟩)) = gmax (l r) q.val :=
    g 0 _ (fun k => (hl r _).trans (congrArg (fun z => l r (640 * a + z)) (by show k.val = 128 * 0 + k.val; omega))) hq
  have g1 (n : ℕ) (h5 : n < 5) (hq : q.val = 5 * a + n) :
      (Finset.univ : Finset (Fin 128)).fold max ⊥ (fun k : Fin 128 => y (ix2 r ⟨128 * n + k.val, by omega⟩)) = gmax (l r) q.val :=
    g n _ (fun k => hl r _) hq
  have hG (b : ℕ) : Gm l b (ix2 r q) = if q.val < 5 * b then gmax (l r) q.val else 0 := rfl
  rw [hG, hG]
  split_ifs
  all_goals first
    | rfl
    | omega
    | exact g1 4 (by omega) ‹_›
    | exact g1 3 (by omega) ‹_›
    | exact g1 2 (by omega) ‹_›
    | exact g1 1 (by omega) ‹_›
    | exact g0 ‹_›

end Step

theorem Gm_apply (l : Fin 128 → ℕ → EReal) (a : ℕ) (r : Fin 128) (q : Fin 256) (hq : q.val < 5 * a) : Gm l a (ix2 r q) = gmax (l r) q.val :=
  if_pos hq

/-- The log-sum-exp of the first `N` columns of a row. -/
def lseOf (N : ℕ) (l : ℕ → EReal) : EReal :=
  (Ideal.liftRound Int.ceil ((Finset.range N).sup (two l))
    + lg (∑ j ∈ Finset.range N, Ideal.exp2 (two l j - Ideal.liftRound Int.ceil ((Finset.range N).sup (two l))))) * Ideal.ofBits .f32 0x3F317218#32

/-- The log-sum-exp of a row. -/
def lse (l : ℕ → EReal) : EReal := lseOf 32000 l

/-- What a point computes of the running maximum and sum of the blocks seen so far. -/
theorem pay2_any (l : Fin 128 → ℕ → EReal) (r : Fin 128) (a : ℕ) : k0_pay2 (Mx l a) (Sm l a) (ix2 r 0) = lseOf (640 * a) (l r) := by
  pointwise [k0_pay2]
  rw [word_two]
  obtain ⟨v, hv⟩ := start_real
  unfold lseOf
  refine congrArg (· * _) ?_
  have h := lse_start (Finset.range (640 * a)) (two (l r)) v _ fun j hj => Finset.le_sup (f := two (l r)) hj
  rw [← hv] at h
  exact h

/-- What the last point computes of the running maximum and sum. -/
theorem pay2_eq (l : Fin 128 → ℕ → EReal) (r : Fin 128) : k0_pay2 (Mx l 50) (Sm l 50) (ix2 r 0) = lse (l r) := by
  rw [pay2_any]
  rfl

theorem pay3_eq (l : Fin 128 → ℕ → EReal) (r : Fin 128) : k0_pay3 (Mx l 50) (Sm l 50) (ix2 r 0) = lse (l r) - Ideal.ofBits .f32 0x4125F9D2#32 := by
  pointwise [k0_pay3]
  rw [pay2_eq]

theorem pay4_eq (l : Fin 128 → ℕ → EReal) (r : Fin 128) (q : Fin 256) (hq : q.val < 250) :
    k0_pay4 (Mx l 50) (Sm l 50) (Gm l 50) (ix2 r q) = gmax (l r) q.val - lse (l r) := by
  pointwise [k0_pay4]
  rw [pay2_eq, Gm_apply l 50 r q (by omega)]

end Cert.HeadVal

end
-- ==== Proof.HeadArray.lean ====
/-
  The arrays the vocabulary product leaves: the running state at every point, and what the last point writes.
-/
module

public import proofs.«01_k».proof.Proof.HeadBlock
public import proofs.«01_k».proof.Proof.HeadStep
public import Idealize.ShloMosaic.Lib.Pipeline.ValueKit
public import Idealize.ShloMosaic.Lib.Claim

@[expose] public section

set_option maxRecDepth 16384

noncomputable section

namespace Cert.HeadVal

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

/-- The logits of the kernel's arguments. -/
def lgt (c : Dev nD) (r : Fin 128) (j : ℕ) : EReal :=
  logit (m (Thread.loc c.tc main_arg0)) (m (Thread.loc c.tc main_arg1)) (m (Thread.loc c.tc main_arg2)) (m (Thread.loc c.tc main_arg3))
    (fun j => m (Thread.loc c.tc main_arg4) (ix1 j)) r j

theorem idx : ∀ t : Fin grid0.N, win0_0.index t = ![0, 0] ∧ win0_1.index t = ![0, 0] ∧ win0_2.index t = ![0, 0]
    ∧ win0_3.index t = ![t.val, 0] ∧ win0_4.index t = ![t.val, 0, 0] ∧ (grid0.coords t 0).val = t.val := by decide +kernel

/-- The codes as the first point converts them. -/
theorem pay5_apply (x0 : Vec Ideal S128x4096 .i8) (r : Fin 128) (k : Fin 4096) : k0_pay5 (F := Ideal) x0 (ix2 r k) = num8 (x0 (ix2 r k)) := by
  pointwise [k0_pay5]
  rfl

/-- The columns' scales as the host lays them out. -/
theorem scales_eq (c : Dev nD) (p : Fin 50) (q : Fin 640) :
    (V m c main_v0 : Vec Ideal S50x1x640 .f32) (ix3 p 0 q) = m (Thread.loc c.tc main_arg4) (ix1 ⟨640 * p.val + q.val, by omega⟩) := by
  have e : (V m c main_v0 : Vec Ideal S50x1x640 .f32) = shapeCast S50x1x640 (m (Thread.loc c.tc main_arg4) : Vec Ideal S32000 .f32) shapeCasts_S32000_S50x1x640 := rfl
  rw [e]
  pointwise []
  refine congrArg _ (congrArg ix1 (Fin.ext ?_))
  dsimp only
  omega

/-- A point's logits. -/
theorem point_eq (c : Dev nD) (t t0 : Fin cfg0.N) (r : Fin 128) (q : Fin 640) :
    k0_pay9 (k0_pay5 (iblk m c 0 t0)) (iblk m c 3 t) (iblk m c 1 t) (iblk m c 4 t) (iblk m c 2 t) (ix2 r q) = lgt m c r (640 * t.val + q.val) := by
  have h5 : t.val < 50 := t.isLt
  have hq := q.isLt
  obtain ⟨e0, -⟩ := idx t0
  obtain ⟨-, e1, e2, e3, e4, -⟩ := idx t
  have hj : 640 * t.val + q.val < 32000 := by omega
  have a0 : ∀ k : Fin 4096, (iblk m c 0 t0 : Vec Ideal S128x4096 .i8) (ix2 r k) = m (Thread.loc c.tc main_arg0) (ix2 r k) := fun k => by
    blk_ext [iblk, V, e0]
  have a1 : (iblk m c 1 t : Vec Ideal S128x1 .f32) (ix2 r 0) = m (Thread.loc c.tc main_arg1) (ix2 r 0) := by
    blk_ext [iblk, V, e1]
  have a2 : (iblk m c 2 t : Vec Ideal S128x1 .f32) (ix2 r 0) = m (Thread.loc c.tc main_arg2) (ix2 r 0) := by
    blk_ext [iblk, V, e2]
  have a3 : ∀ k : Fin 4096, (iblk m c 3 t : Vec Ideal S640x4096 .i8) (ix2 q k) = m (Thread.loc c.tc main_arg3) (ix2 ⟨640 * t.val + q.val, hj⟩ k) := fun k => by
    blk_ext [iblk, V, e3]
  have a4 : (iblk m c 4 t : Vec Ideal S1x1x640 .f32) (ix3 0 0 q) = m (Thread.loc c.tc main_arg4) (ix1 ⟨640 * t.val + q.val, hj⟩) := by
    have h1 : (iblk m c 4 t : Vec Ideal S1x1x640 .f32) (ix3 0 0 q) = V m c main_v0 (ix3 ⟨t.val, h5⟩ 0 q) := by
      blk_simp [iblk]
      refine congrArg (V m c main_v0) (funext fun a => Fin.ext ?_)
      match a with
      | ⟨0, _⟩ =>
        blk_simp [e4]
        exact Nat.add_zero _
      | ⟨1, _⟩ => blk_ext [e4]
      | ⟨2, _⟩ => blk_ext [e4]
    rw [h1, scales_eq]
  rw [pay9_apply, a1, a2, a4]
  unfold lgt logit
  rw [dif_pos hj]
  rw [Finset.sum_congr rfl fun k _ => (congrArg₂ (· * ·) ((pay5_apply _ r k).trans (congrArg num8 (a0 k))) (congrArg num8 (a3 k)))]

/-- The codes' block is the same at every point. -/
theorem codes_eq (c : Dev nD) (t t0 : Fin cfg0.N) : (iblk m c 0 t : Vec Ideal S128x4096 .i8) = iblk m c 0 t0 := by
  funext i
  obtain ⟨r, k, rfl⟩ : ∃ (r : Fin 128) (k : Fin 4096), i = ix2 r k := ⟨i 0, i 1, eq_ix2 i⟩
  obtain ⟨e0, -⟩ := idx t0
  obtain ⟨e1, -⟩ := idx t
  have a0 : (iblk m c 0 t : Vec Ideal S128x4096 .i8) (ix2 r k) = m (Thread.loc c.tc main_arg0) (ix2 r k) := by
    blk_ext [iblk, V, e1]
  have a1 : (iblk m c 0 t0 : Vec Ideal S128x4096 .i8) (ix2 r k) = m (Thread.loc c.tc main_arg0) (ix2 r k) := by
    blk_ext [iblk, V, e0]
  exact a0.trans a1.symm

/-- The first point. -/
def t0 : Fin cfg0.N := ⟨0, by decide⟩

/-- The running state after a point. -/
theorem state (c : Dev nD) : ∀ (n : ℕ) (hn : n < cfg0.N), (outsAt0 m c n hn).2.2
    = (k0_pay5 (iblk m c 0 t0), Gm (lgt m c) (n + 1), Mx (lgt m c) (n + 1), Sm (lgt m c) (n + 1))
  | 0, hn => by
    refine (congrArg (fun z => z.2.2) (outsAt0_A m c ⟨0, hn⟩ rfl (by dsimp only; omega))).trans ?_
    dsimp only
    rw [sA0, sA1, sA2, sA3, mx0_eq (lgt m c), sm0_eq (lgt m c), gm0_eq (lgt m c)]
    have hl := point_eq m c ⟨0, hn⟩ ⟨0, hn⟩
    obtain ⟨-, -, -, -, -, e5⟩ := idx ⟨0, hn⟩
    rw [stepMx_eq (lgt m c) 0 _ _ _ _ _ hl, stepSm_eq (lgt m c) 0 _ _ _ _ _ hl, stepGm_eq (lgt m c) 0 _ _ _ _ _ hl _ e5 (by omega)]
    rfl
  | n + 1, hn => by
    have hN : n + 1 < 50 := hn
    have ih := state c n (Nat.lt_of_succ_lt hn)
    have hl := point_eq m c ⟨n + 1, hn⟩ t0
    obtain ⟨-, -, -, -, -, e5⟩ := idx ⟨n + 1, hn⟩
    have i0 := congrArg (fun z => z.1) ih
    have i1 := congrArg (fun z => z.2.1) ih
    have i2 := congrArg (fun z => z.2.2.1) ih
    have i3 := congrArg (fun z => z.2.2.2) ih
    dsimp only at i0 i1 i2 i3
    by_cases h : (n + 1) % 50 = 49
    · refine (congrArg (fun z => z.2.2) (outsAt0_C m c ⟨n + 1, hn⟩ (by dsimp only; omega) h)).trans ?_
      dsimp only
      rw [sC1, sC2, sC3]
      simp only [Nat.add_sub_cancel]
      rw [i0, i1, i2, i3, stepMx_eq (lgt m c) (n + 1) _ _ _ _ _ hl, stepSm_eq (lgt m c) (n + 1) _ _ _ _ _ hl, stepGm_eq (lgt m c) (n + 1) _ _ _ _ _ hl _ e5 (by omega)]
      rfl
    · refine (congrArg (fun z => z.2.2) (outsAt0_B m c ⟨n + 1, hn⟩ (by dsimp only; omega) h)).trans ?_
      dsimp only
      rw [sB1, sB2, sB3]
      simp only [Nat.add_sub_cancel]
      rw [i0, i1, i2, i3, stepMx_eq (lgt m c) (n + 1) _ _ _ _ _ hl, stepSm_eq (lgt m c) (n + 1) _ _ _ _ _ hl, stepGm_eq (lgt m c) (n + 1) _ _ _ _ _ hl _ e5 (by omega)]
      rfl

/-- The last point. -/
def tN : Fin cfg0.N := ⟨49, by decide⟩

/-- What the last point writes. -/
theorem last (c : Dev nD) : (outsAt0 m c tN.val tN.isLt).1 = k0_pay4 (Mx (lgt m c) 50) (Sm (lgt m c) 50) (Gm (lgt m c) 50)
    ∧ (outsAt0 m c tN.val tN.isLt).2.1 = k0_pay3 (Mx (lgt m c) 50) (Sm (lgt m c) 50) := by
  have hl := point_eq m c tN t0
  obtain ⟨-, -, -, -, -, e5⟩ := idx tN
  have ih := state m c (tN.val - 1) (Nat.lt_of_le_of_lt (Nat.sub_le _ _) tN.isLt)
  have i0 := congrArg (fun z => z.1) ih
  have i1 := congrArg (fun z => z.2.1) ih
  have i2 := congrArg (fun z => z.2.2.1) ih
  have i3 := congrArg (fun z => z.2.2.2) ih
  dsimp only at i0 i1 i2 i3
  have s1 := stepMx_eq (lgt m c) 49 _ _ _ _ _ hl
  have s2 := stepSm_eq (lgt m c) 49 _ _ _ _ _ hl
  have s3 := stepGm_eq (lgt m c) 49 _ _ _ _ _ hl _ e5 (by decide)
  constructor
  · refine (congrArg (fun z => z.1) (outsAt0_C m c tN (by decide) (by decide))).trans ?_
    dsimp only
    rw [oC5, i0, i1, i2, i3]
    exact congr (congr (congrArg k0_pay4 s1) s2) s3
  · refine (congrArg (fun z => z.2.1) (outsAt0_C m c tN (by decide) (by decide))).trans ?_
    dsimp only
    rw [oC6, i0, i2, i3]
    exact congr (congrArg k0_pay3 s1) s2

theorem arr5 (c : Dev nD) : (dats m 0 c).arrAt 5 cfg0.N = k0_pay4 (Mx (lgt m c) 50) (Sm (lgt m c) 50) (Gm (lgt m c) 50) := by
  refine (dats m 0 c).arrAt_eq_of_after_last 5 tN (by decide +kernel) _ fun j => ?_
  rw [after0_5, (last m c).1]
  rfl

theorem arr6 (c : Dev nD) : (dats m 0 c).arrAt 6 cfg0.N = k0_pay3 (Mx (lgt m c) 50) (Sm (lgt m c) 50) := by
  refine (dats m 0 c).arrAt_eq_of_after_last 6 tN (by decide +kernel) _ fun j => ?_
  rw [after0_6, (last m c).2]
  rfl

end Cert.HeadVal

end
-- ==== Proof.HeadRef.lean ====
/-
  What the vocabulary product's reference leaves: the group maxima and the log-sum-exp, written plainly.
-/
module

public import proofs.«01_k».proof.Proof.Gen.HeadRefIdeal.Frame
public import proofs.«01_k».proof.Proof.HeadStep
public import Idealize.ShloMosaic.Lib.Pipeline.ValueKit
public import Idealize.ShloMosaic.Lib.Claim

@[expose] public section

set_option maxRecDepth 16384

noncomputable section

namespace Cert.HeadRefVal

open Cert.HeadRefIdeal Cert.HeadRefIdeal.Gen Idealize.ShloMosaic Idealize.ShloMosaic.TcCoe Idealize.SL.Sem
open Idealize.ShloMosaic.Pipeline (Dat)
open Cert.HeadVal (logit num8 two gmax lse lseOf word_bot word_two sup_fin)
open Cert.HeadMath

theorem hz : (![0, 0] : Fin 2 → Nat) = fun _ => 0 := funext fun a => by fin_cases a <;> rfl

variable (v0 : Vec Ideal S128x4096 .i8) (v2 : Vec Ideal S32000x4096 .i8) (v5 : Vec Ideal S128x1 .f32) (v8 : Vec Ideal S1x32000 .f32)
  (v12 : Vec Ideal S128x1 .f32)

/-- The logits. -/
def L (r : Fin 128) (j : ℕ) : EReal := logit v0 v5 v12 v2 (fun j => v8 (ix2 0 j)) r j

theorem pay1_apply (r : Fin 128) (j : Fin 32000) : k0_pay1 v0 v2 v5 v8 v12 (ix2 r j) = L v0 v2 v5 v8 v12 r j.val := by
  unfold L logit
  rw [dif_pos j.isLt]
  unfold k0_pay1
  pointwise []
  rfl

/-- The log-sum-exp over rows of `N` logits, as the reference writes it. -/
def rows (N : ℕ) (l : FVec Ideal ⟨2, ![128, N]⟩ .f32) (hr : (⟨2, ![128, N]⟩ : Shape).Reduces [1] S128) (hs : S128.ShapeCasts S128x1)
    (hb : S128x1.Broadcasts ⟨2, ![128, N]⟩) : FVec Ideal S128x1 .f32 :=
  have x : FVec Ideal ⟨2, ![128, N]⟩ .f32 := mulf l (broadcast ⟨2, ![128, N]⟩ (Scalar.ofBits .f32 0x3FB8AA3B#32))
  have c : FVec Ideal S128x1 .f32 := ceil (shapeCast S128x1 (multiReduction .maximumf [1] S128 x 0xFF800000#32 hr (.inl rfl) rfl : FVec Ideal S128 .f32) hs)
  have e : FVec Ideal S128 .f32 := multiReduction .add [1] S128 (exp2 (subf x (broadcastTo ⟨2, ![128, N]⟩ c hb))) 0x00000000#32 hr (.inl rfl) rfl
  mulf (addf c (divf (log (shapeCast S128x1 e hs)) (log (broadcast S128x1 (Scalar.ofBits .f32 0x40000000#32))))) (broadcast S128x1 (Scalar.ofBits .f32 0x3F317218#32))

theorem rows_apply (N : ℕ) (l : FVec Ideal ⟨2, ![128, N]⟩ .f32) (hr : (⟨2, ![128, N]⟩ : Shape).Reduces [1] S128) (hs : S128.ShapeCasts S128x1)
    (hb : S128x1.Broadcasts ⟨2, ![128, N]⟩) (r : Fin 128) (g : ℕ → EReal) (h : ∀ j : Fin N, l (ix2 r j) = g j.val) :
    rows N l hr hs hb (ix2 r 0) = lseOf N g := by
  have e : rows N l hr hs hb (ix2 r 0) = (Ideal.liftRound Int.ceil ((Finset.univ : Finset (Fin N)).fold max ⊥ fun j => two g j.val)
      + lg (∑ j : Fin N, Ideal.exp2 (two g j.val - Ideal.liftRound Int.ceil ((Finset.univ : Finset (Fin N)).fold max ⊥ fun j => two g j.val)))) * Ideal.ofBits .f32 0x3F317218#32 := by
    pointwise [rows]
    rw [word_bot, word_two]
    simp only [h]
    rfl
  rw [e, sup_fin N _ (two g) fun _ => rfl]
  unfold lseOf
  rw [Finset.sum_range]

theorem pay2_rows : k0_pay2 v0 v2 v5 v8 v12
    = rows 32000 (k0_pay1 v0 v2 v5 v8 v12) reduces_S128x32000_S128 shapeCasts_S128_S128x1 broadcasts_S128x1_S128x32000 := by
  unfold k0_pay2 rows
  with_reducible rfl

theorem pay2_apply (r : Fin 128) : k0_pay2 v0 v2 v5 v8 v12 (ix2 r 0) = lse (L v0 v2 v5 v8 v12 r) := by
  unfold lse
  rw [pay2_rows]
  exact rows_apply 32000 _ _ _ _ r _ fun j => pay1_apply v0 v2 v5 v8 v12 r j

theorem less_apply (l : FVec Ideal S128x1 .f32) (r : Fin 128) :
    subf l (broadcast S128x1 (Scalar.ofBits .f32 0x4125F9D2#32 : Ideal .f32)) (ix2 r 0) = l (ix2 r 0) - Ideal.ofBits .f32 0x4125F9D2#32 := rfl

theorem pay3_apply (r : Fin 128) : k0_pay3 v0 v2 v5 v8 v12 (ix2 r 0) = lse (L v0 v2 v5 v8 v12 r) - Ideal.ofBits .f32 0x4125F9D2#32 := by
  have h := less_apply (k0_pay2 v0 v2 v5 v8 v12) r
  rw [pay2_apply] at h
  exact h

/-- A group's maximum, taken after a number is subtracted. -/
theorem group (l : ℕ → EReal) (c : EReal) (q : ℕ) (f : Fin 128 → EReal) (h : ∀ k : Fin 128, f k = l (128 * q + k.val) - c) :
    (Finset.univ : Finset (Fin 128)).fold max ⊥ f = gmax l q - c := by
  rw [sup_fin 128 f (fun k => l (128 * q + k) - c) h]
  unfold gmax
  exact (sup_sub (Finset.range 128) ⟨0, Finset.mem_range.2 (by omega)⟩ (fun k => l (128 * q + k)) c).symm

theorem pay4_apply (r : Fin 128) (q : Fin 250) : k0_pay4 v0 v2 v5 v8 v12 (ix2 r q)
    = gmax (L v0 v2 v5 v8 v12 r) q.val - lse (L v0 v2 v5 v8 v12 r) := by
  have hl := pay1_apply v0 v2 v5 v8 v12 r
  rw [← pay2_apply]
  unfold k0_pay4
  generalize k0_pay2 v0 v2 v5 v8 v12 = s at *
  generalize k0_pay1 v0 v2 v5 v8 v12 = l at *
  pointwise []
  rw [word_bot]
  refine group (L v0 v2 v5 v8 v12 r) _ q.val _ fun k => ?_
  rw [hl]
  dsimp only
  rw [Nat.mul_comm q.val 128]

variable (m : (ℓ : Loc nD τ sig) → Buf (Elt Ideal) ℓ)

theorem out5 (x0 : Vec Ideal S128x4096 .i8) (x1 x2 : Vec Ideal S128x1 .f32) (x3 : Vec Ideal S32000x4096 .i8) (x4 : Vec Ideal S1x32000 .f32) :
    out0_5 x0 x1 x2 x3 x4 = k0_pay4 x0 x3 x1 x4 x2 := by
  unfold out0_5
  rw [View.canon_cons_unit_zero (S := S128x250) hz]
  simp only [View.ld_unit_zero (S := S128x4096) hz, View.ld_unit_zero (S := S32000x4096) hz, View.ld_unit_zero (S := S128x1) hz, View.ld_unit_zero (S := S1x32000) hz]

theorem out6 (x0 : Vec Ideal S128x4096 .i8) (x1 x2 : Vec Ideal S128x1 .f32) (x3 : Vec Ideal S32000x4096 .i8) (x4 : Vec Ideal S1x32000 .f32) :
    out0_6 x0 x1 x2 x3 x4 = k0_pay3 x0 x3 x1 x4 x2 := by
  unfold out0_6
  rw [View.canon_cons_unit_zero (S := S128x1) hz]
  simp only [View.ld_unit_zero (S := S128x4096) hz, View.ld_unit_zero (S := S32000x4096) hz, View.ld_unit_zero (S := S128x1) hz, View.ld_unit_zero (S := S1x32000) hz]

/-- The logits of the reference's arguments. -/
def lgt (c : Dev nD) (r : Fin 128) (j : ℕ) : EReal :=
  logit (m (Thread.loc c.tc main_arg0)) (m (Thread.loc c.tc main_arg1)) (m (Thread.loc c.tc main_arg2)) (m (Thread.loc c.tc main_arg3))
    (fun j => m (Thread.loc c.tc main_arg4) (ix1 j)) r j

theorem idx : ∀ t : Fin grid0.N, win0_0.index t = ![0, 0] ∧ win0_1.index t = ![0, 0] ∧ win0_2.index t = ![0, 0]
    ∧ win0_3.index t = ![0, 0] ∧ win0_4.index t = ![0, 0] := by decide +kernel

theorem L_eq (c : Dev nD) (t : Fin cfg0.N) (r : Fin 128) : L (iblk m c 0 t) (iblk m c 3 t) (iblk m c 1 t) (iblk m c 4 t) (iblk m c 2 t) r = lgt m c r := by
  obtain ⟨e0, e1, e2, e3, e4⟩ := idx t
  funext j
  unfold L lgt logit
  by_cases h : j < 32000
  · have a0 : ∀ k : Fin 4096, (iblk m c 0 t : Vec Ideal S128x4096 .i8) (ix2 r k) = m (Thread.loc c.tc main_arg0) (ix2 r k) := fun k => by
      blk_ext [iblk, V, e0]
    have a1 : (iblk m c 1 t : Vec Ideal S128x1 .f32) (ix2 r 0) = m (Thread.loc c.tc main_arg1) (ix2 r 0) := by
      blk_ext [iblk, V, e1]
    have a2 : (iblk m c 2 t : Vec Ideal S128x1 .f32) (ix2 r 0) = m (Thread.loc c.tc main_arg2) (ix2 r 0) := by
      blk_ext [iblk, V, e2]
    have a3 : ∀ k : Fin 4096, (iblk m c 3 t : Vec Ideal S32000x4096 .i8) (ix2 ⟨j, h⟩ k) = m (Thread.loc c.tc main_arg3) (ix2 ⟨j, h⟩ k) := fun k => by
      blk_ext [iblk, V, e3]
    have a4 : (iblk m c 4 t : Vec Ideal S1x32000 .f32) (ix2 0 ⟨j, h⟩) = m (Thread.loc c.tc main_arg4) (ix1 ⟨j, h⟩) := by
      blk_point [iblk, V, e4]
    rw [dif_pos h, dif_pos h, a1, a2]
    dsimp only
    rw [a4, Finset.sum_congr rfl fun k _ => (congrArg₂ (· * ·) (congrArg num8 (a0 k)) (congrArg num8 (a3 k)))]
  · rw [dif_neg h, dif_neg h]

/-- The group maxima, relative to the log-sum-exp. -/
def G5 (l : Fin 128 → ℕ → EReal) : Vec Ideal S128x250 .f32 := fun i => gmax (l (i 0)) (i 1).val - lse (l (i 0))

/-- The log-sum-exp, relative to the uniform one. -/
def G6 (l : Fin 128 → ℕ → EReal) : Vec Ideal S128x1 .f32 := fun i => lse (l (i 0)) - Ideal.ofBits .f32 0x4125F9D2#32

def t0 : Fin cfg0.N := ⟨0, by decide⟩

/-- What the body writes, over the logits. -/
theorem body5 (c : Dev nD) (t : Fin cfg0.N) : k0_pay4 (iblk m c 0 t) (iblk m c 3 t) (iblk m c 1 t) (iblk m c 4 t) (iblk m c 2 t) = G5 (lgt m c) := by
  funext j
  obtain ⟨r, q, rfl⟩ : ∃ (r : Fin 128) (q : Fin 250), j = ix2 r q := ⟨j 0, j 1, eq_ix2 j⟩
  rw [pay4_apply, L_eq]
  rfl

theorem body6 (c : Dev nD) (t : Fin cfg0.N) : k0_pay3 (iblk m c 0 t) (iblk m c 3 t) (iblk m c 1 t) (iblk m c 4 t) (iblk m c 2 t) = G6 (lgt m c) := by
  funext j
  obtain ⟨r, rfl⟩ := Cert.HeadVal.col j
  rw [pay3_apply, L_eq]
  rfl

theorem arr5 (c : Dev nD) : (dats m 0 c).arrAt 5 cfg0.N = G5 (lgt m c) := by
  refine (dats m 0 c).arrAt_eq_of_after_last 5 t0 (by decide +kernel) _ fun j => ?_
  rw [after0_5, out5, body5]
  rfl

theorem arr6 (c : Dev nD) : (dats m 0 c).arrAt 6 cfg0.N = G6 (lgt m c) := by
  refine (dats m 0 c).arrAt_eq_of_after_last 6 t0 (by decide +kernel) _ fun j => ?_
  rw [after0_6, out6, body6]
  rfl

end Cert.HeadRefVal

end
-- ==== Proof.HeadEq.lean ====
/-
  The vocabulary product and its reference leave the same arrays.
-/
module

public import proofs.«01_k».proof.Defs
public import proofs.«01_k».proof.Proof.HeadArray
public import proofs.«01_k».proof.Proof.HeadRef
public import Idealize.ShloMosaic.Lib.StableHlo.RunHlo

@[expose] public section

set_option maxRecDepth 16384

noncomputable section

namespace Cert.HeadEq

open Idealize.ShloMosaic Idealize.ShloMosaic.TcCoe Idealize.SL.Sem

/-- The first 250 columns of what the last point writes. -/
theorem maxima (l : Fin 128 → ℕ → EReal) :
    extractStridedSlice Cert.HeadIdeal.S128x250 ![0, 0] (Cert.HeadIdeal.Gen.k0_pay4 (F := Ideal) (Cert.HeadVal.Mx l 50) (Cert.HeadVal.Sm l 50) (Cert.HeadVal.Gm l 50))
      Cert.HeadIdeal.Facts₀.slices_S128x256_S128x250_0_0 = Cert.HeadRefVal.G5 l := by
  funext i
  obtain ⟨r, q, rfl⟩ : ∃ (r : Fin 128) (q : Fin 250), i = ix2 r q := ⟨i 0, i 1, eq_ix2 i⟩
  refine Eq.trans ?_ (Cert.HeadVal.pay4_eq l r ⟨q.val, by omega⟩ q.isLt)
  generalize Cert.HeadIdeal.Gen.k0_pay4 (F := Ideal) (Cert.HeadVal.Mx l 50) (Cert.HeadVal.Sm l 50) (Cert.HeadVal.Gm l 50) = x
  pointwise []

theorem lses (l : Fin 128 → ℕ → EReal) :
    Cert.HeadIdeal.Gen.k0_pay3 (F := Ideal) (Cert.HeadVal.Mx l 50) (Cert.HeadVal.Sm l 50) = Cert.HeadRefVal.G6 l := by
  funext i
  obtain ⟨r, rfl⟩ := Cert.HeadVal.col i
  exact Cert.HeadVal.pay3_eq l r

/-- The kernel's buffers after the host's slice. -/
theorem tail (m : (ℓ : Loc Cert.HeadIdeal.nD Cert.HeadIdeal.τ Cert.HeadIdeal.sig) → Buf (Elt Ideal) ℓ) (c : Dev Cert.HeadIdeal.nD) :
    Pipeline.afterTail₀ Cert.HeadIdeal.cfgs (Cert.HeadIdeal.Gen.dats m) 0 (Cert.HeadIdeal.Gen.V0 m) [Cert.HeadIdeal.Gen.hostOps1] c Cert.HeadIdeal.main_v2
      = Cert.HeadRefVal.G5 (Cert.HeadVal.lgt m c) := by
  rw [← maxima, ← Cert.HeadVal.arr5 m c]
  unfold Pipeline.afterTail₀
  have e := Pipeline.withArrays_arr Cert.HeadIdeal.spec0 (by decide) c (Cert.HeadIdeal.Gen.V0 m c) (fun w => (Cert.HeadIdeal.Gen.dats m 0 c).arrAt w Cert.HeadIdeal.cfg0.N) 5
  exact congrArg (fun z => extractStridedSlice Cert.HeadIdeal.S128x250 ![0, 0] z Cert.HeadIdeal.Facts₀.slices_S128x256_S128x250_0_0) e

theorem algebraic : Cert.algebraic_HeadIdeal_HeadRefIdeal (hHeadIdeal := Cert.HeadIdeal.Gen.facts) (hHeadRefIdeal := Cert.HeadRefIdeal.Gen.facts) := by
  intro m g m' g' _ hargs
  refine ⟨fun c => Cert.HeadRefVal.G5 (Cert.HeadVal.lgt m c), fun c => Cert.HeadRefVal.G6 (Cert.HeadVal.lgt m c), ?_, ?_⟩
  · refine (θ_run _ _ _).mono (fun r h c => ?_) (θ_run_and (Cert.HeadIdeal.Gen.unchanged (F := Ideal) m g) (Cert.HeadIdeal.Gen.run_main m g))
    obtain ⟨hk, hf⟩ := h
    refine ⟨?_, ?_, hk c⟩
    · exact ((hf c).2 _ (Pipeline.mem_restRefs_of Cert.HeadIdeal.main_v2 (by decide) (by decide))).trans (tail m c)
    · exact ((hf c).1 6).trans ((Cert.HeadVal.arr6 m c).trans (lses _))
  · refine (θ_run _ _ _).mono (fun r h c => ?_) (θ_run_and (Cert.HeadRefIdeal.Gen.unchanged (F := Ideal) m' g') (Cert.HeadRefIdeal.Gen.run_main m' g'))
    obtain ⟨hk, hf⟩ := h
    obtain ⟨h0, h1, h2, h3, h4⟩ := hargs c
    have e : Cert.HeadRefVal.lgt m' c = Cert.HeadVal.lgt m c := by
      funext r j
      unfold Cert.HeadRefVal.lgt Cert.HeadVal.lgt
      rw [h0, h1, h2, h3, h4]
    refine ⟨?_, ?_, hk c⟩
    · exact ((hf c).1 5).trans ((Cert.HeadRefVal.arr5 m' c).trans (congrArg Cert.HeadRefVal.G5 e))
    · exact ((hf c).1 6).trans ((Cert.HeadRefVal.arr6 m' c).trans (congrArg Cert.HeadRefVal.G6 e))

end Cert.HeadEq

end
-- ==== Proof.NormQArray.lean ====
/-
  What the last normalisation with its quantiser leaves: the rounded input, the codes and the scale of each row.
-/
module

public import proofs.«01_k».proof.Proof.Gen.NormQIdeal.Value
public import proofs.«01_k».proof.Proof.Norm
public import Idealize.ShloMosaic.Lib.Pipeline.ValueKit
public import Idealize.ShloMosaic.Lib.Claim

@[expose] public section

set_option maxRecDepth 16384

noncomputable section

namespace Cert.NormQVal

open Cert.NormQIdeal Cert.NormQIdeal.Gen Idealize.ShloMosaic Idealize.ShloMosaic.TcCoe Idealize.SL.Sem
open Idealize.ShloMosaic.Pipeline (Dat)

/-- The largest absolute value of each row. -/
def amax (v : FVec Ideal S128x4096 .f32) : FVec Ideal S128 .f32 :=
  multiReduction .maximumf [1] S128 (absf v) 0xFF800000#32 reduces_S128x4096_S128 (.inl rfl) rfl

/-- The scale of a row whose largest absolute value is `a`. -/
def scale (a : EReal) : EReal :=
  Scalar.select (Ideal.cmp .oeq a (Scalar.ofBits (F := Ideal) .f32 0x00000000#32)) (Scalar.ofBits (F := Ideal) .f32 0x3F800000#32)
    (Ideal.div a (Scalar.ofBits (F := Ideal) .f32 0x42FE0000#32))

/-- A value over its scale, rounded and clipped. -/
def clip (x s : EReal) : EReal :=
  min (Scalar.sitofp (F := Ideal) .f32 127#32) (max (Scalar.sitofp (F := Ideal) .f32 4294967169#32) (Ideal.liftRound Ideal.roundHalfEven (Ideal.div x s)))

/-- The normalised rows. -/
def nv (h : Vec Ideal S128x4096 .f32) (w : Vec Ideal S4096 .f32) : FVec Ideal S128x4096 .f32 :=
  fun i => Cert.Norm.nrm h (fun k => w (ix1 k)) (i 0) (i 1)

/-- The scales. -/
def scales (v : FVec Ideal S128x4096 .f32) : Vec Ideal S128x1 .f32 := fun i => scale (amax v (ix1 (i 0)))

/-- The codes. -/
def codes (v : FVec Ideal S128x4096 .f32) : Vec Ideal S128x4096 .i8 := fun i => Ideal.fptosi 8 (clip (v i) (scale (amax v (ix1 (i 0)))))

theorem pay2_eq (h : Vec Ideal S128x4096 .f32) (w : Vec Ideal S1x4096 .f32) : k0_pay2 h w = Cert.Norm.normed h w := by
  unfold k0_pay2 Cert.Norm.normed
  dsimp only

/-- The body's scale, at a row, from the largest absolute value. -/
theorem scale_rows (a : FVec Ideal S128 .f32) (r : Fin 128) (z : Fin 1) :
    select (cmpf .oeq (shapeCast S128x1 a shapeCasts_S128_S128x1) (broadcast S128x1 (Scalar.ofBits (F := Ideal) .f32 0x00000000#32)))
      (broadcast S128x1 (Scalar.ofBits (F := Ideal) .f32 0x3F800000#32))
      (divf (shapeCast S128x1 a shapeCasts_S128_S128x1) (broadcast S128x1 (Scalar.ofBits (F := Ideal) .f32 0x42FE0000#32))) (ix2 r z)
      = scale (a (ix1 r)) := by
  pointwise [scale]

theorem pay3_eq (h : Vec Ideal S128x4096 .f32) (w : Vec Ideal S1x4096 .f32) : k0_pay3 h w = scales (k0_pay2 h w) := by
  funext i
  obtain ⟨r, z, rfl⟩ : ∃ (r : Fin 128) (z : Fin 1), i = ix2 r z := ⟨i 0, i 1, eq_ix2 i⟩
  exact scale_rows (amax (k0_pay2 h w)) r z

/-- The body's codes, at an element, from the values and the scales. -/
theorem code_rows (v : FVec Ideal S128x4096 .f32) (s : FVec Ideal S128x1 .f32) (r : Fin 128) (j : Fin 4096) :
    fptosi 8 (minimumf (broadcast S128x4096 (Scalar.sitofp (F := Ideal) .f32 127#32)) (maximumf (broadcast S128x4096 (Scalar.sitofp (F := Ideal) .f32 4294967169#32))
      (roundeven (divf v (broadcastTo S128x4096 s broadcasts_S128x1_S128x4096))))) (ix2 r j)
      = Ideal.fptosi 8 (clip (v (ix2 r j)) (s (ix2 r 0))) := by
  pointwise [clip]
  rfl

theorem pay4_eq (h : Vec Ideal S128x4096 .f32) (w : Vec Ideal S1x4096 .f32) : k0_pay4 h w = codes (k0_pay2 h w) := by
  funext i
  obtain ⟨r, j, rfl⟩ : ∃ (r : Fin 128) (j : Fin 4096), i = ix2 r j := ⟨i 0, i 1, eq_ix2 i⟩
  refine (code_rows (k0_pay2 h w) (k0_pay3 h w) r j).trans ?_
  rw [pay3_eq]
  rfl

variable (m : (ℓ : Loc nD τ sig) → Buf (Elt Ideal) ℓ)

/-- The only point. -/
def t0 : Fin cfg0.N := ⟨0, by decide⟩

theorem idx : ∀ t : Fin grid0.N, win0_0.index t = ![0, 0] ∧ win0_1.index t = ![0, 0] := by decide +kernel

theorem a0 (c : Dev nD) : (iblk m c 0 t0 : Vec Ideal S128x4096 .f32) = m (Thread.loc c.tc main_arg0) := funext fun i => by
  obtain ⟨r, j, rfl⟩ : ∃ (r : Fin 128) (j : Fin 4096), i = ix2 r j := ⟨i 0, i 1, eq_ix2 i⟩
  obtain ⟨e0, e1⟩ := idx t0
  blk_ext [iblk, V, e0]

/-- The normalised rows that the point computes. -/
theorem vals (c : Dev nD) : k0_pay2 (iblk m c 0 t0) (iblk m c 1 t0) = nv (m (Thread.loc c.tc main_arg0)) (m (Thread.loc c.tc main_arg1)) := by
  funext i
  obtain ⟨r, j, rfl⟩ : ∃ (r : Fin 128) (j : Fin 4096), i = ix2 r j := ⟨i 0, i 1, eq_ix2 i⟩
  obtain ⟨e0, e1⟩ := idx t0
  have a1 : (fun k => iblk m c 1 t0 (ix2 0 k) : Fin 4096 → EReal) = fun k => m (Thread.loc c.tc main_arg1) (ix1 k) := funext fun k => by
    blk_point [iblk, V, e1]
  rw [pay2_eq, Cert.Norm.normed_apply, a0, a1]
  rfl

theorem hz2 : (![0, 0] : Fin 2 → Nat) = fun _ => 0 := funext fun a => by fin_cases a <;> rfl

theorem out2_eq (x0 : Vec Ideal S128x4096 .f32) (x1 : Vec Ideal S1x4096 .f32) : out0_2 x0 x1 = k0_pay1 x0 := by
  unfold out0_2 r0_0
  rw [View.canon_cons_unit_zero (S := S128x4096) hz2]
  simp only [View.ld_unit_zero (S := S128x4096) hz2]

theorem out3_eq (x0 : Vec Ideal S128x4096 .f32) (x1 : Vec Ideal S1x4096 .f32) : out0_3 x0 x1 = k0_pay4 x0 x1 := by
  unfold out0_3 r0_0 r0_1
  rw [View.canon_cons_unit_zero (S := S128x4096) hz2]
  simp only [View.ld_unit_zero (S := S128x4096) hz2, View.ld_unit_zero (S := S1x4096) hz2]

theorem out4_eq (x0 : Vec Ideal S128x4096 .f32) (x1 : Vec Ideal S1x4096 .f32) : out0_4 x0 x1 = k0_pay3 x0 x1 := by
  unfold out0_4 r0_0 r0_1 r0_2
  rw [View.canon_cons_unit_zero (S := S128x1) hz2]
  simp only [View.ld_unit_zero (S := S128x4096) hz2, View.ld_unit_zero (S := S1x4096) hz2]

/-- The rounded input: over the extended reals, the input. -/
theorem arr2 (c : Dev nD) : (dats m 0 c).arrAt 2 cfg0.N = truncf (F := Ideal) .bf16 (m (Thread.loc c.tc main_arg0)) bitsLt_bf16_f32 := by
  refine (dats m 0 c).arrAt_eq_of_after_last 2 t0 (by decide +kernel) _ fun j => ?_
  rw [after0_2, out2_eq, a0]
  rfl

theorem arr3 (c : Dev nD) : (dats m 0 c).arrAt 3 cfg0.N = codes (nv (m (Thread.loc c.tc main_arg0)) (m (Thread.loc c.tc main_arg1))) := by
  refine (dats m 0 c).arrAt_eq_of_after_last 3 t0 (by decide +kernel) _ fun j => ?_
  rw [after0_3, out3_eq, pay4_eq, vals]
  generalize codes (nv (m (Thread.loc c.tc main_arg0)) (m (Thread.loc c.tc main_arg1))) = z
  rfl

theorem arr4 (c : Dev nD) : (dats m 0 c).arrAt 4 cfg0.N = scales (nv (m (Thread.loc c.tc main_arg0)) (m (Thread.loc c.tc main_arg1))) := by
  refine (dats m 0 c).arrAt_eq_of_after_last 4 t0 (by decide +kernel) _ fun j => ?_
  rw [after0_4, out4_eq, pay3_eq, vals]
  generalize scales (nv (m (Thread.loc c.tc main_arg0)) (m (Thread.loc c.tc main_arg1))) = z
  rfl

end Cert.NormQVal

end
-- ==== Proof.NormQRef.lean ====
/-
  What the reference of the last normalisation with its quantiser computes.
-/
module

public import proofs.«01_k».proof.Proof.NormQArray
public import proofs.«01_k».proof.Proof.Gen.NormQRefIdeal.Read

@[expose] public section

set_option maxRecDepth 16384

noncomputable section

namespace Cert.NormQRefVal

open Cert.NormQRefIdeal Cert.NormQRefIdeal.Gen Cert.NormQRefIdeal.Read Idealize.ShloMosaic Idealize.ShloMosaic.TcCoe Idealize.SL.Sem

variable (x0 : Vec Ideal S128x4096 .f32) (x1 : Vec Ideal S4096 .f32)

/-- The normalised rows. -/
theorem vals : val_main_v12 (F := Ideal) x0 x1 = Cert.NormQVal.nv x0 x1 := by
  funext i
  obtain ⟨r, j, rfl⟩ : ∃ (r : Fin 128) (j : Fin 4096), i = ix2 r j := ⟨i 0, i 1, eq_ix2 i⟩
  refine Eq.trans ?_ (show Cert.Norm.nrm x0 (fun k => x1 (ix1 k)) r j = _ from rfl)
  rw [val_main_v12_apply, val_main_v9_apply, val_main_v8_apply, val_main_v7_apply, val_main_v6_apply, val_main_v4_apply, val_main_v2_apply, val_main_v1_apply, val_main_v3_apply, val_main_cst_0_apply, val_main_v5_apply, val_main_cst_1_apply, val_main_v11_apply, val_main_v10_apply]
  unfold Cert.Norm.nrm
  rw [show val_main_cst (F := Ideal) (Shape.Idx.first h_S_) = 0 from Ideal.ofBits_zero .f32, zero_add]
  refine congrArg₂ (· * ·) (congrArg₂ Ideal.div (congrArg _ ?_) ?_) ?_
  · rfl
  · refine congrArg (fun a : EReal => Ideal.sqrt (Ideal.div a (Scalar.ofBits (F := Ideal) .f32 0x45800000#32) + Scalar.ofBits (F := Ideal) .f32 0x3727C5AC#32)) (Finset.sum_congr rfl fun k _ => ?_)
    rw [val_main_v0_apply, show idx_main_v1 (idx_main_v2 (idx_main_v8 (ix2 r j))) k = ix2 r k from eq_ix2 _]
    rfl
  · refine congrArg x1 (funext fun a => ?_)
    match a with
    | ⟨0, _⟩ => rfl

/-- The largest absolute value of each row: the host's fold is the kernel's. -/
theorem max_eq (v : FVec Ideal S128x4096 .f32) :
    Host.reduce FloatOps.maximumf (Host.absf v) (val_main_cst_2 (F := Ideal)) reducesTo_S128x4096_S128_d1 h_S_ = Cert.NormQVal.amax v := by
  funext j
  refine (Host.reduce_eq_fold _ _ _ _ _ j).trans (Eq.symm ((multiReduction_maximumf_eq_fold _ _ _ _ _ j).trans ?_))
  rfl

theorem scale_eq (i : S128.Idx) : val_main_v19 (F := Ideal) x0 x1 i = Cert.NormQVal.scale (Cert.NormQVal.amax (Cert.NormQVal.nv x0 x1) i) := by
  rw [val_main_v19_apply, val_main_v16_apply, val_main_v18_apply, val_main_v15_apply, val_main_v17_apply, val_main_call0_v1_apply]
  have e : val_main_v14 (F := Ideal) x0 x1 = Cert.NormQVal.amax (Cert.NormQVal.nv x0 x1) := by
    rw [← vals]
    exact max_eq _
  rw [e]
  rfl

theorem scales_eq : val_main_v28 (F := Ideal) x0 x1 = Cert.NormQVal.scales (Cert.NormQVal.nv x0 x1) := by
  funext i
  rw [val_main_v28_apply, scale_eq]
  refine congrArg (fun k => Cert.NormQVal.scale (Cert.NormQVal.amax _ k)) (funext fun a => ?_)
  match a with
  | ⟨0, _⟩ => rfl

theorem upper : (Scalar.sitofp (F := Ideal) .f32 127#32 : EReal) = ((127 : ℝ) : EReal) := by
  show (((127#32 : BitVec 32).toInt : ℝ) : EReal) = _
  rw [show (127#32 : BitVec 32).toInt = 127 from by decide]
  norm_num

theorem lower : (Scalar.sitofp (F := Ideal) .f32 4294967169#32 : EReal) = ((-127 : ℝ) : EReal) := by
  show (((4294967169#32 : BitVec 32).toInt : ℝ) : EReal) = _
  rw [show (4294967169#32 : BitVec 32).toInt = -127 from by decide]
  norm_num

/-- A number between -127 and 127 has the same word of eight bits, converted at once or by way of 32 bits. -/
theorem narrow (x : EReal) : (Ideal.fptosi 32 (min ((127 : ℝ) : EReal) (max ((-127 : ℝ) : EReal) x))).setWidth 8
    = Ideal.fptosi 8 (min ((127 : ℝ) : EReal) (max ((-127 : ℝ) : EReal) x)) := by
  obtain ⟨r, hr, hl, hu⟩ : ∃ r : ℝ, min ((127 : ℝ) : EReal) (max ((-127 : ℝ) : EReal) x) = r ∧ -127 ≤ r ∧ r ≤ 127 := by
    induction x using EReal.rec with
    | bot => exact ⟨-127, by rw [max_eq_left bot_le]; exact min_eq_right (EReal.coe_le_coe_iff.2 (by norm_num)), by norm_num, by norm_num⟩
    | top => exact ⟨127, by rw [max_eq_right le_top]; exact min_eq_left le_top, by norm_num, by norm_num⟩
    | coe a =>
      refine ⟨min 127 (max (-127) a), ?_, le_min (by norm_num) (le_max_left _ _), min_le_left _ _⟩
      rw [EReal.coe_strictMono.monotone.map_min, EReal.coe_strictMono.monotone.map_max]
  rw [hr]
  unfold Ideal.fptosi
  have hz : (-127 : ℤ) ≤ (if 0 ≤ r then ⌊r⌋ else ⌈r⌉) ∧ (if 0 ≤ r then ⌊r⌋ else ⌈r⌉) ≤ 127 := by
    split
    · exact ⟨Int.le_floor.2 (by push_cast; exact hl), Int.cast_le.1 ((Int.floor_le r).trans (by push_cast; exact hu) : ((⌊r⌋ : ℤ) : ℝ) ≤ ((127 : ℤ) : ℝ))⟩
    · exact ⟨Int.cast_le.1 (((by push_cast; exact hl : ((-127 : ℤ) : ℝ) ≤ r)).trans (Int.le_ceil r)), Int.ceil_le.2 (by push_cast; exact hu)⟩
  show (BitVec.ofInt 32 (max _ (min _ (if 0 ≤ r then ⌊r⌋ else ⌈r⌉)))).setWidth 8 = BitVec.ofInt 8 (max _ (min _ (if 0 ≤ r then ⌊r⌋ else ⌈r⌉)))
  generalize (if 0 ≤ r then ⌊r⌋ else ⌈r⌉) = z at hz
  obtain ⟨h1, h2⟩ := hz
  rw [show max (-((2 ^ (32 - 1) : ℕ) : ℤ)) (min (((2 ^ (32 - 1) : ℕ) : ℤ) - 1) z) = z by omega,
    show max (-((2 ^ (8 - 1) : ℕ) : ℤ)) (min (((2 ^ (8 - 1) : ℕ) : ℤ) - 1) z) = z by omega]
  obtain ⟨n, rfl⟩ : ∃ n : Fin 255, z = (n.val : ℤ) - 127 := ⟨⟨(z + 127).toNat, by omega⟩, by dsimp only; omega⟩
  clear h1 h2
  revert n
  decide +kernel

theorem codes_eq : val_main_v26 (F := Ideal) x0 x1 = Cert.NormQVal.codes (Cert.NormQVal.nv x0 x1) := by
  funext i
  rw [val_main_v26_apply, val_main_v25_apply, val_main_v24_apply, val_main_call2_v4_apply, val_main_call2_v3_apply, val_main_call2_v2_apply, val_main_call2_v1_apply,
    val_main_call2_v0_apply, val_main_v23_apply, val_main_v22_apply, val_main_v21_apply, val_main_v20_apply, vals]
  have e : (idx_main_v20 (idx_main_v21 i) : Cert.NormQIdeal.S128.Idx) = ix1 (i 0) := funext fun a => by
    match a with
    | ⟨0, _⟩ => rfl
  have hs : val_main_v19 (F := Ideal) x0 x1 (idx_main_v20 (idx_main_v21 i)) = Cert.NormQVal.scale (Cert.NormQVal.amax (Cert.NormQVal.nv x0 x1) (ix1 (i 0))) :=
    (scale_eq x0 x1 _).trans (congrArg (fun k => Cert.NormQVal.scale (Cert.NormQVal.amax (Cert.NormQVal.nv x0 x1) k)) e)
  rw [hs]
  show _ = Ideal.fptosi 8 (Cert.NormQVal.clip (Cert.NormQVal.nv x0 x1 i) (Cert.NormQVal.scale (Cert.NormQVal.amax (Cert.NormQVal.nv x0 x1) (ix1 (i 0)))))
  generalize Cert.NormQVal.scale (Cert.NormQVal.amax (Cert.NormQVal.nv x0 x1) (ix1 (i 0))) = s
  generalize Cert.NormQVal.nv x0 x1 i = y
  unfold Cert.NormQVal.clip
  rw [val_main_c_apply, val_main_c_6_apply, upper, lower,
    show FloatOps.sitofp (F := Ideal) .f32 127#32 = ((127 : ℝ) : EReal) from upper, show FloatOps.sitofp (F := Ideal) .f32 4294967169#32 = ((-127 : ℝ) : EReal) from lower]
  rw [show ∀ x : EReal, FloatOps.fptosi (F := Ideal) (φ := .f32) 32 x = Ideal.fptosi 32 x from fun _ => rfl,
    show ∀ a b : EReal, FloatOps.minimumf (F := Ideal) (φ := .f32) a b = min a b from fun _ _ => rfl,
    show ∀ a b : EReal, FloatOps.maximumf (F := Ideal) (φ := .f32) a b = max a b from fun _ _ => rfl,
    show ∀ a b : EReal, FloatOps.hostDivf (F := Ideal) (φ := .f32) a b = Ideal.div a b from fun _ _ => rfl,
    show ∀ a : EReal, FloatOps.hostUnary (F := Ideal) (φ := .f32) .roundeven a = Ideal.liftRound Ideal.roundHalfEven a from fun _ => rfl]
  exact narrow _

end Cert.NormQRefVal

end
-- ==== Proof.NormQEq.lean ====
/-
  The last normalisation with its quantiser and its reference leave the same three arrays.
-/
module

public import proofs.«01_k».proof.Defs
public import proofs.«01_k».proof.Proof.NormQRef
public import proofs.«01_k».proof.Proof.Gen.NormQRefIdeal.Run
public import Idealize.ShloMosaic.Lib.Quiescent

@[expose] public section

set_option maxRecDepth 16384

noncomputable section

namespace Cert.NormQEq

open Idealize.ShloMosaic Idealize.ShloMosaic.TcCoe Idealize.SL.Sem

theorem algebraic : Cert.algebraic_NormQIdeal_NormQRefIdeal (hNormQIdeal := Cert.NormQIdeal.Gen.facts) (hNormQRefIdeal := Cert.NormQRefIdeal.Gen.facts) := by
  intro m g m' g' _ hargs
  refine ⟨fun c => truncf (F := Ideal) .bf16 (m (Thread.loc c.tc Cert.NormQIdeal.main_arg0)) Cert.NormQIdeal.Facts₀.bitsLt_bf16_f32,
    fun c => Cert.NormQVal.codes (Cert.NormQVal.nv (m (Thread.loc c.tc Cert.NormQIdeal.main_arg0)) (m (Thread.loc c.tc Cert.NormQIdeal.main_arg1))),
    fun c => Cert.NormQVal.scales (Cert.NormQVal.nv (m (Thread.loc c.tc Cert.NormQIdeal.main_arg0)) (m (Thread.loc c.tc Cert.NormQIdeal.main_arg1))), ?_, ?_⟩
  · refine (θ_run _ _ _).mono (fun r h c => ?_) (Cert.NormQIdeal.Value.run_blocks m g)
    obtain ⟨h2, h3, h4, hk⟩ := h c
    exact ⟨h2.trans (Cert.NormQVal.arr2 m c), h3.trans (Cert.NormQVal.arr3 m c), h4.trans (Cert.NormQVal.arr4 m c), hk⟩
  · refine (θ_run _ _ _).mono (fun r h c => ?_) (Cert.NormQRefIdeal.Value.run (F := Ideal) m' g')
    obtain ⟨h2, h3, h4, hk⟩ := h c
    obtain ⟨h0, h1⟩ := hargs c
    refine ⟨h2.trans ?_, h3.trans ?_, h4.trans ?_, hk⟩
    · rw [h0]
    · rw [Cert.NormQRefIdeal.Read.val_main_v26_eq, h0, h1]
      exact Cert.NormQRefVal.codes_eq _ _
    · rw [Cert.NormQRefIdeal.Read.val_main_v28_eq, h0, h1]
      exact Cert.NormQRefVal.scales_eq _ _

/-- The reference leaves its arguments, and every semaphore counter at zero: it has none. -/
theorem refFrame : Cert.quiescent_NormQRefIdeal (hNormQRefIdeal := Cert.NormQRefIdeal.Gen.facts) := fun m g _ =>
  (θ_run _ _ _).mono (fun r h => ⟨fun c => (h c).2.2.2, sem_eq_zero_of_no_sems rfl _⟩) (Cert.NormQRefIdeal.Value.run (F := Ideal) m g)

end Cert.NormQEq

end
-- ==== Proof.FcIdealBody.lean ====
/-
  The first projection at every point of its grid. The first point quantises the activations and stores codes and
  scales in two output buffers; every point multiplies the codes by its own columns of the weights. The codes and
  scales stay in their buffers until the last point, after which they are written back.
-/
module

public import proofs.«01_k».proof.Proof.Gen.FcIdeal.Frame
public import proofs.«01_k».proof.Proof.Gen.FcIdeal.Skeleton
public import Idealize.ShloMosaic.Lib.Pipeline.TableIdle
public import Idealize.ShloMosaic.Lib.Pipeline.ValueKit
public import Idealize.ShloMosaic.Lib.Pipeline.Frame
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.FcIdeal.Body

open Cert.FcIdeal Cert.FcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-! ## The two cases of the body -/

theorem hz : (![0, 0] : Fin 2 → Nat) = fun _ => 0 := funext fun a => by fin_cases a <;> rfl

/-- The branch is taken at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- A later point: the product over the codes and scales that the buffers hold. -/
theorem run_B (c : Dev nD) (i : grid0.Coords) (arg1 : Memref sig .tc .vmem S128x12288 .bf16) (harg1 : arg1.IsWhole) (arg2 : Memref sig .tc .vmem S12288x256 .fp8e4m3) (harg2 : arg2.IsWhole)
    (arg3 : Memref sig .tc .vmem S1x256 .f32) (harg3 : arg3.IsWhole) (arg4 : Memref sig .tc .vmem S128x256 .f32) (harg4 : arg4.IsWhole)
    (arg5 : Memref sig .tc .vmem S128x12288 .fp8e4m3) (harg5 : arg5.IsWhole) (arg6 : Memref sig .tc .vmem S128x1 .f32) (harg6 : arg6.IsWhole)
    (hc : ¬ k0_cond1 i = 1#1)
    (x0 : Vec F S128x12288 .bf16) (x1 : Vec F S12288x256 .fp8e4m3) (x2 : Vec F S1x256 .f32) (x4 : Vec F S128x12288 .fp8e4m3) (x5 : Vec F S128x1 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x4 x1 x5 x2) ∗ owns (c : Thread nD τ) arg5 fullShare x4 ∗ owns (c : Thread nD τ) arg6 fullShare x5) -∗ K ⟨⟩))
      ⊢ wp frame (wpE (defs₀ (F := F)) Variants.none c none) E (cc0_fc i arg1 harg1 arg2 harg2 arg3 harg3 arg4 harg4 arg5 harg5 arg6 harg6) K := by
  simp only [cc0_fc_eq_skeleton]; unfold cc0_fc_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    rw [View.readAt_full, View.readAt_full, View.readAt_full, View.readAt_full, harg5.read_unread, harg2.read_unread, harg6.read_unread, harg3.read_unread]
  isplitl [H4]
  · iexists _; isplitr; · ipureintro; exact harg5.read_unread _
    iexact H4
  iexists _; isplitr; · ipureintro; exact harg6.read_unread _
  iexact H5

/-- The first point: codes and scales are stored, then the product over them. -/
theorem run_A (c : Dev nD) (i : grid0.Coords) (arg1 : Memref sig .tc .vmem S128x12288 .bf16) (harg1 : arg1.IsWhole) (arg2 : Memref sig .tc .vmem S12288x256 .fp8e4m3) (harg2 : arg2.IsWhole)
    (arg3 : Memref sig .tc .vmem S1x256 .f32) (harg3 : arg3.IsWhole) (arg4 : Memref sig .tc .vmem S128x256 .f32) (harg4 : arg4.IsWhole)
    (arg5 : Memref sig .tc .vmem S128x12288 .fp8e4m3) (harg5 : arg5.IsWhole) (arg6 : Memref sig .tc .vmem S128x1 .f32) (harg6 : arg6.IsWhole)
    (hc : k0_cond1 i = 1#1)
    (x0 : Vec F S128x12288 .bf16) (x1 : Vec F S12288x256 .fp8e4m3) (x2 : Vec F S1x256 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 (k0_pay3 x0) x1 (k0_pay2 x0) x2) ∗ owns (c : Thread nD τ) arg5 fullShare (k0_pay3 x0) ∗ owns (c : Thread nD τ) arg6 fullShare (k0_pay2 x0)) -∗ K ⟨⟩))
      ⊢ wp frame (wpE (defs₀ (F := F)) Variants.none c none) E (cc0_fc i arg1 harg1 arg2 harg2 arg3 harg3 arg4 harg4 arg5 harg5 arg6 harg6) K := by
  simp only [cc0_fc_eq_skeleton]; unfold cc0_fc_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    unfold run_A.sl.v3 run_A.sl.v7 run_A.sl.H4_1 run_A.sl.H5_1
    refine (View.read_writes_full _ _ _ _ _).trans ?_
    rw [View.readCov_full, View.readCov_full, View.readAt_full, View.readAt_full, View.readAt_full, harg1.read_unread, harg2.read_unread, harg3.read_unread]
  isplitl [H4]
  · iexists _; isplitr
    swap; · iexact H4
    ipureintro
    unfold run_A.sl.H4_1
    refine (View.read_writes_full _ _ _ _ _).trans ?_
    rw [View.readAt_full, harg1.read_unread]
  iexists _; isplitr
  swap; · iexact H5
  ipureintro
  unfold run_A.sl.H5_1
  refine (View.read_writes_full _ _ _ _ _).trans ?_
  rw [View.readAt_full, harg1.read_unread]

/-! ## The proof data -/

/-- The first point. -/
def t0 : Fin cfg0.N := ⟨0, by decide⟩

/-- The codes. -/
def codes (c : Dev nD) : Vec F S128x12288 .fp8e4m3 := k0_pay3 (iblk m c 0 t0)

/-- The scales. -/
def scales (c : Dev nD) : Vec F S128x1 .f32 := k0_pay2 (iblk m c 0 t0)

/-- The block of products that a point leaves. -/
def block (c : Dev nD) (t : Fin cfg0.N) : Vec F S128x256 .f32 := k0_pay4 (codes m c) (iblk m c 1 t) (scales m c) (iblk m c 2 t)

/-- What each buffer holds after a point: the inputs their blocks, the outputs the products, the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
    | ⟨4, _⟩ => codes m c
    | ⟨5, _⟩ => scales m c
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = block m c t := by dsimp only [dats]
theorem after4 (c : Dev nD) (t : Fin cfg0.N) : (dats m 0 c).after 4 t = codes m c := by dsimp only [dats]
theorem after5 (c : Dev nD) (t : Fin cfg0.N) : (dats m 0 c).after 5 t = scales m c := by dsimp only [dats]

theorem before0 (c : Dev nD) (t : Fin cfg0.N) (d) : (dats m 0 c).before 0 t d = iblk m c 0 t := before0_0_of m (dats m 0 c) rfl (after0 m c) t d
theorem before1 (c : Dev nD) (t : Fin cfg0.N) (d) : (dats m 0 c).before 1 t d = iblk m c 1 t := before0_1_of m (dats m 0 c) rfl (after1 m c) t d
theorem before2 (c : Dev nD) (t : Fin cfg0.N) (d) : (dats m 0 c).before 2 t d = iblk m c 2 t := before0_2_of m (dats m 0 c) rfl (after2 m c) t d

/-- After the first point the codes and the scales are in their buffers. -/
theorem fresh4 : ∀ t : Fin 16, t.val ≠ 0 → cfg0.fresh 4 t.val = false := by decide +kernel
theorem fresh5 : ∀ t : Fin 16, t.val ≠ 0 → cfg0.fresh 5 t.val = false := by decide +kernel

theorem before4 (c : Dev nD) (t : Fin cfg0.N) (h : t.val ≠ 0) (d) : (dats m 0 c).before 4 t d = codes m c := by
  rw [(dats m 0 c).before_out_traj 4 rfl (fun _ _ => rfl) (fun t _ _ _ => (after4 m c _).trans (after4 m c _).symm) t.val t rfl d,
    fresh4 t h, if_neg Bool.false_ne_true, after4]
theorem before5 (c : Dev nD) (t : Fin cfg0.N) (h : t.val ≠ 0) (d) : (dats m 0 c).before 5 t d = scales m c := by
  rw [(dats m 0 c).before_out_traj 5 rfl (fun _ _ => rfl) (fun t _ _ _ => (after5 m c _).trans (after5 m c _).symm) t.val t rfl d,
    fresh5 t h, if_neg Bool.false_ne_true, after5]

/-! ## The body at a point -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = (dats m 0 c).Φ t.castSucc from rfl,
    after0, after1, after2, after3, after4, after5]
  by_cases h : t.val = 0
  · obtain rfl : t = t0 := Fin.ext h
    iintro ⟨HP, Ho, ⟨%d0, H0⟩, ⟨%d1, H1⟩, ⟨%d2, H2⟩, ⟨%d3, H3⟩, ⟨%d4, H4⟩, ⟨%d5, H5⟩⟩
    iapply (run_A c (grid0.coords t0) _ _ _ _ _ _ _ _ _ _ _ _ ((hcond t0).mpr h) (iblk m c 0 t0) (iblk m c 1 t0) (iblk m c 2 t0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    iexact H5
  · simp only [before4 m c t h, before5 m c t h]
    iintro ⟨HP, Ho, ⟨%d0, H0⟩, ⟨%d1, H1⟩, ⟨%d2, H2⟩, ⟨%d3, H3⟩, ⟨%d4, H4⟩, ⟨%d5, H5⟩⟩
    iapply (run_B c (grid0.coords t) _ _ _ _ _ _ _ _ _ _ _ _ (fun e => h ((hcond t).mp e)) (iblk m c 0 t) (iblk m c 1 t) (iblk m c 2 t) (codes m c) (scales m c) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s buffers is the body as `bodyAt0` spells it. -/
theorem defs₀_row (t : Fin cfg0.N) : defs₀ (F := F) .tc cfg0.body (cfg0.bodyArgs t (cfg0.slots t)) = bodyAt0 t := by
  unfold defs₀; rw [Defs.onTc_tc]

theorem idle4 : ∀ t : Fin grid0.N, idle0 4 (grid0.coords t) = true → t.val ≠ 0 := by decide +kernel
theorem idle5 : ∀ t : Fin grid0.N, idle0 5 (grid0.coords t) = true → t.val ≠ 0 := by decide +kernel

/-- A buffer that the point does not store into may be handed back at what it held: the codes. -/
theorem leave4 (c : Dev nD) (t : Fin cfg0.N) :
    owns (c : Thread nD τ) (st0_4 t) fullShare ((dats m 0 c).after 4 t) ⊢ (dats m 0 c).leavesExact 4 t := by
  unfold Dat.leavesExact
  cases hi : cfg0.idle 4 (cfg0.grid.coords t)
  · exact Entails.refl _
  · cases (cfg0.win 4).flush t
    · simp only [before4 m c t (idle4 t hi)]
      rw [after4]
      iintro H; iexists (codes m c); iexact H
    · exact Entails.refl _

/-- The same for the scales. -/
theorem leave5 (c : Dev nD) (t : Fin cfg0.N) :
    owns (c : Thread nD τ) (st0_5 t) fullShare ((dats m 0 c).after 5 t) ⊢ (dats m 0 c).leavesExact 5 t := by
  unfold Dat.leavesExact
  cases hi : cfg0.idle 5 (cfg0.grid.coords t)
  · exact Entails.refl _
  · cases (cfg0.win 5).flush t
    · simp only [before5 m c t (idle5 t hi)]
      rw [after5]
      iintro H; iexists (scales m c); iexact H
    · exact Entails.refl _

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono (Entails.refl _) (sep_mono (Entails.refl _) (sep_mono (Entails.refl _) (sep_mono (Entails.refl _)
      (sep_mono (Entails.refl _) (sep_mono (Entails.refl _) (sep_mono (leave4 m c t) (leave5 m c t)))))))

/-! ## The run and the frame -/

-- `θ_run_frame`'s implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with each array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.FcIdeal.Body

end
-- ==== Proof.FcArray.lean ====
/-
  The arrays the first projection leaves: codes, scales, and the products, its column blocks put together.
-/
module

public import proofs.«01_k».proof.Proof.FcIdealBody

@[expose] public section

set_option maxRecDepth 16384

noncomputable section

namespace Cert.FcVal

open Cert.FcIdeal Cert.FcIdeal.Gen Cert.FcIdeal.Body Idealize.ShloMosaic Idealize.ShloMosaic.TcCoe Idealize.SL.Sem
open Idealize.ShloMosaic.Pipeline (Dat)

/-- The product of codes and weights at an element, scaled by row and by column. -/
def prod (x : Vec Ideal S128x12288 .fp8e4m3) (s : Vec Ideal S128x1 .f32) (w : Vec Ideal S12288x4096 .fp8e4m3) (fs : Vec Ideal S4096 .f32) :
    Vec Ideal S128x4096 .f32 := fun i =>
  (∑ k : Fin 12288, (x (ix2 (i 0) k) : EReal) * w (ix2 k (i 1))) * s (ix2 (i 0) 0) * fs (ix1 (i 1))

/-- A block's product at an element. -/
theorem pay4_apply (x : Vec Ideal S128x12288 .fp8e4m3) (w : Vec Ideal S12288x256 .fp8e4m3) (s : Vec Ideal S128x1 .f32) (fs : Vec Ideal S1x256 .f32)
    (r : Fin 128) (q : Fin 256) :
    k0_pay4 x w s fs (ix2 r q) = (∑ k : Fin 12288, (x (ix2 r k) : EReal) * w (ix2 k q)) * s (ix2 r 0) * fs (ix2 0 q) := by
  unfold k0_pay4
  pointwise []

variable (m : (ℓ : Loc nD τ sig) → Buf (Elt Ideal) ℓ)

theorem idx : ∀ t : Fin grid0.N, win0_0.index t = ![0, 0] ∧ win0_1.index t = ![0, t.val] ∧ win0_2.index t = ![0, t.val]
    ∧ win0_3.index t = ![0, t.val] := by decide +kernel

/-- The first point reads the whole of the activations. -/
theorem acts (c : Dev nD) : (iblk m c 0 t0 : Vec Ideal S128x12288 .bf16) = m (Thread.loc c.tc main_arg0) := funext fun i => by
  obtain ⟨e0, -⟩ := idx t0
  obtain ⟨r, j, rfl⟩ : ∃ (r : Fin 128) (j : Fin 12288), i = ix2 r j := ⟨i 0, i 1, eq_ix2 i⟩
  blk_ext [iblk, V, e0]

/-- The codes of the activations. -/
def C (x : Vec Ideal S128x12288 .bf16) : Vec Ideal S128x12288 .fp8e4m3 := k0_pay3 x

/-- Their scales. -/
def S (x : Vec Ideal S128x12288 .bf16) : Vec Ideal S128x1 .f32 := k0_pay2 x

theorem codes_eq (c : Dev nD) : codes m c = C (m (Thread.loc c.tc main_arg0)) := congrArg C (acts m c)
theorem scales_eq (c : Dev nD) : scales m c = S (m (Thread.loc c.tc main_arg0)) := congrArg S (acts m c)

/-- The last point. -/
def t15 : Fin cfg0.N := ⟨15, by decide⟩

theorem arr4 (c : Dev nD) : (dats m 0 c).arrAt 4 cfg0.N = C (m (Thread.loc c.tc main_arg0)) := by
  refine (dats m 0 c).arrAt_eq_of_after_last 4 t15 (by decide +kernel) _ fun j => ?_
  rw [after4, codes_eq]
  generalize C (m (Thread.loc c.tc main_arg0)) = x
  refine (cast_eq _ _).trans (congrArg x ?_)
  funext a
  rfl

theorem arr5 (c : Dev nD) : (dats m 0 c).arrAt 5 cfg0.N = S (m (Thread.loc c.tc main_arg0)) := by
  refine (dats m 0 c).arrAt_eq_of_after_last 5 t15 (by decide +kernel) _ fun j => ?_
  rw [after5, scales_eq]
  generalize S (m (Thread.loc c.tc main_arg0)) = x
  refine (cast_eq _ _).trans (congrArg x ?_)
  funext a
  rfl

theorem arr3 (c : Dev nD) : (dats m 0 c).arrAt 3 cfg0.N
    = prod (C (m (Thread.loc c.tc main_arg0))) (S (m (Thread.loc c.tc main_arg0))) (m (Thread.loc c.tc main_arg1)) (m (Thread.loc c.tc main_arg2)) := by
  refine (dats m 0 c).arrAt_eq_of_covers 3 _ (by decide +kernel) fun t hf y => ?_
  refine (cast_eq _ _).trans ?_
  rw [after3]
  unfold block
  rw [codes_eq, scales_eq]
  generalize C (m (Thread.loc c.tc main_arg0)) = x
  generalize S (m (Thread.loc c.tc main_arg0)) = s
  obtain ⟨r, q, hy⟩ : ∃ (r : Fin 128) (q : Fin 256), (cfg0.win 3).xinj (cfg0.grid.coords t) y = ix2 r q := ⟨_, _, eq_ix2 _⟩
  have h0 : (y 0).val = r.val := congrArg (fun z : S128x256.Idx => (z 0).val) hy
  have h1 : (y 1).val = q.val := congrArg (fun z : S128x256.Idx => (z 1).val) hy
  obtain ⟨e0, e1, e2, e3⟩ := idx t
  have h5 : t.val < 16 := t.isLt
  have hq := q.isLt
  have hw : ∀ k : Fin 12288, (iblk m c 1 t : Vec Ideal S12288x256 .fp8e4m3) (ix2 k q) = m (Thread.loc c.tc main_arg1) (ix2 k ⟨t.val * 256 + q.val, by omega⟩) :=
    fun k => by blk_ext [iblk, V, e1]
  have hs : (iblk m c 2 t : Vec Ideal S1x256 .f32) (ix2 0 q) = m (Thread.loc c.tc main_arg2) (ix1 ⟨t.val * 256 + q.val, by omega⟩) := by
    blk_point [iblk, V, e2]
  have key : k0_pay4 x (iblk m c 1 t) s (iblk m c 2 t) (ix2 r q)
      = prod x s (m (Thread.loc c.tc main_arg1)) (m (Thread.loc c.tc main_arg2)) (ix2 r ⟨t.val * 256 + q.val, by omega⟩) := by
    rw [pay4_apply, hs]
    unfold prod
    exact congrArg (fun z : EReal => z * s (ix2 r 0) * m (Thread.loc c.tc main_arg2) (ix1 ⟨t.val * 256 + q.val, by omega⟩))
      (Finset.sum_congr rfl fun k _ => congrArg (fun z : EReal => (x (ix2 r k) : EReal) * z) (hw k))
  rw [hy]
  refine key.trans (congrArg _ (funext fun a => Fin.ext ?_))
  match a with
  | ⟨0, _⟩ =>
    show r.val = win0_3.index t 0 * 128 + 1 * (y 0).val
    rw [h0, e3]
    show r.val = 0 * 128 + 1 * r.val
    omega
  | ⟨1, _⟩ =>
    show t.val * 256 + q.val = win0_3.index t 1 * 256 + 1 * (y 1).val
    rw [h1, e3]
    show t.val * 256 + q.val = t.val * 256 + 1 * q.val
    omega

end Cert.FcVal

end
-- ==== Proof.FcRef.lean ====
/-
  What the first projection's reference leaves: codes, scales and products, written plainly.
-/
module

public import proofs.«01_k».proof.Proof.Gen.FcRefIdeal.Frame
public import proofs.«01_k».proof.Proof.FcArray

@[expose] public section

set_option maxRecDepth 16384

noncomputable section

namespace Cert.FcRefVal

open Cert.FcRefIdeal Cert.FcRefIdeal.Gen Idealize.ShloMosaic Idealize.ShloMosaic.TcCoe Idealize.SL.Sem
open Idealize.ShloMosaic.Pipeline (Dat)
open Cert.FcVal (prod C S)

theorem hz : (![0, 0] : Fin 2 → Nat) = fun _ => 0 := funext fun a => by fin_cases a <;> rfl

/-- The reference's scales are the kernel's. -/
theorem pay2_eq (x : Vec Ideal S128x12288 .bf16) : k0_pay2 x = S x := by
  unfold S k0_pay2 Cert.FcIdeal.Gen.k0_pay2
  rfl

/-- So are its codes. -/
theorem pay3_eq (x : Vec Ideal S128x12288 .bf16) : k0_pay3 x = C x := by
  unfold C k0_pay3 Cert.FcIdeal.Gen.k0_pay3
  rw [pay2_eq]
  rfl

/-- The products of any codes and scales, as the reference writes them. -/
def dot (x : FVec Ideal S128x12288 .fp8e4m3) (s : FVec Ideal S128x1 .f32) (w : Vec Ideal S12288x4096 .fp8e4m3) (fs : Vec Ideal S1x4096 .f32) :
    FVec Ideal S128x4096 .f32 :=
  mulf (mulf (matmul (φ₂ := .fp8e4m3) dot_S128x12288_S12288x4096_S128x4096_1_0_0_1_n_n none x w (constant S128x4096 .f32 0x00000000#32))
    (broadcastTo S128x4096 s broadcasts_S128x1_S128x4096)) (broadcastTo S128x4096 (shapeCast S1x4096 fs shapeCasts_S1x4096_S1x4096) broadcasts_S1x4096_S128x4096)

theorem dot_apply (x : FVec Ideal S128x12288 .fp8e4m3) (s : FVec Ideal S128x1 .f32) (w : Vec Ideal S12288x4096 .fp8e4m3) (fs : Vec Ideal S1x4096 .f32)
    (r : Fin 128) (q : Fin 4096) :
    dot x s w fs (ix2 r q) = (∑ k : Fin 12288, (x (ix2 r k) : EReal) * w (ix2 k q)) * s (ix2 r 0) * fs (ix2 0 q) := by
  unfold dot
  pointwise []

theorem pay4_dot (x : Vec Ideal S128x12288 .bf16) (w : Vec Ideal S12288x4096 .fp8e4m3) (fs : Vec Ideal S1x4096 .f32) :
    k0_pay4 x w fs = dot (C x) (S x) w fs := by
  rw [← pay3_eq, ← pay2_eq]
  unfold k0_pay4 dot
  with_reducible rfl

variable (m : (ℓ : Loc nD τ sig) → Buf (Elt Ideal) ℓ)

theorem out3 (x0 : Vec Ideal S128x12288 .bf16) (x1 : Vec Ideal S12288x4096 .fp8e4m3) (x2 : Vec Ideal S1x4096 .f32) : out0_3 x0 x1 x2 = k0_pay4 x0 x1 x2 := by
  unfold out0_3
  rw [View.canon_cons_unit_zero (S := S128x4096) hz]
  simp only [View.ld_unit_zero (S := S128x12288) hz, View.ld_unit_zero (S := S12288x4096) hz, View.ld_unit_zero (S := S1x4096) hz]

theorem out4 (x0 : Vec Ideal S128x12288 .bf16) (x1 : Vec Ideal S12288x4096 .fp8e4m3) (x2 : Vec Ideal S1x4096 .f32) : out0_4 x0 x1 x2 = k0_pay3 x0 := by
  unfold out0_4
  rw [View.canon_cons_unit_zero (S := S128x12288) hz]
  simp only [View.ld_unit_zero (S := S128x12288) hz]

theorem out5 (x0 : Vec Ideal S128x12288 .bf16) (x1 : Vec Ideal S12288x4096 .fp8e4m3) (x2 : Vec Ideal S1x4096 .f32) : out0_5 x0 x1 x2 = k0_pay2 x0 := by
  unfold out0_5
  rw [View.canon_cons_unit_zero (S := S128x1) hz]
  simp only [View.ld_unit_zero (S := S128x12288) hz]

theorem idx : ∀ t : Fin grid0.N, win0_0.index t = ![0, 0] ∧ win0_1.index t = ![0, 0] ∧ win0_2.index t = ![0, 0] := by decide +kernel

theorem acts (c : Dev nD) (t : Fin cfg0.N) : (iblk m c 0 t : Vec Ideal S128x12288 .bf16) = m (Thread.loc c.tc main_arg0) := funext fun i => by
  obtain ⟨e0, -⟩ := idx t
  obtain ⟨r, j, rfl⟩ : ∃ (r : Fin 128) (j : Fin 12288), i = ix2 r j := ⟨i 0, i 1, eq_ix2 i⟩
  blk_ext [iblk, V, e0]

def t0 : Fin cfg0.N := ⟨0, by decide⟩

theorem arr4 (c : Dev nD) : (dats m 0 c).arrAt 4 cfg0.N = C (m (Thread.loc c.tc main_arg0)) := by
  refine (dats m 0 c).arrAt_eq_of_after_last 4 t0 (by decide +kernel) _ fun j => ?_
  rw [after0_4, out4, acts, pay3_eq]
  generalize C (m (Thread.loc c.tc main_arg0)) = x
  refine (cast_eq _ _).trans (congrArg x ?_)
  funext a
  rfl

theorem arr5 (c : Dev nD) : (dats m 0 c).arrAt 5 cfg0.N = S (m (Thread.loc c.tc main_arg0)) := by
  refine (dats m 0 c).arrAt_eq_of_after_last 5 t0 (by decide +kernel) _ fun j => ?_
  rw [after0_5, out5, acts, pay2_eq]
  generalize S (m (Thread.loc c.tc main_arg0)) = x
  refine (cast_eq _ _).trans (congrArg x ?_)
  funext a
  rfl

/-- What the body writes of the products. -/
theorem body3 (c : Dev nD) (t : Fin cfg0.N) : k0_pay4 (iblk m c 0 t) (iblk m c 1 t) (iblk m c 2 t)
    = prod (C (m (Thread.loc c.tc main_arg0))) (S (m (Thread.loc c.tc main_arg0))) (m (Thread.loc c.tc main_arg1)) (m (Thread.loc c.tc main_arg2)) := by
  rw [pay4_dot, acts]
  generalize C (m (Thread.loc c.tc main_arg0)) = x
  generalize S (m (Thread.loc c.tc main_arg0)) = s
  obtain ⟨e0, e1, e2⟩ := idx t
  funext j
  obtain ⟨r, q, rfl⟩ : ∃ (r : Fin 128) (q : Fin 4096), j = ix2 r q := ⟨j 0, j 1, eq_ix2 j⟩
  have hw : ∀ k : Fin 12288, (iblk m c 1 t : Vec Ideal S12288x4096 .fp8e4m3) (ix2 k q) = m (Thread.loc c.tc main_arg1) (ix2 k q) :=
    fun k => by blk_ext [iblk, V, e1]
  have hs : (iblk m c 2 t : Vec Ideal S1x4096 .f32) (ix2 0 q) = m (Thread.loc c.tc main_arg2) (ix1 q) := by
    blk_point [iblk, V, e2]
  rw [dot_apply, hs]
  unfold prod
  exact congrArg (fun z : EReal => z * s (ix2 r 0) * m (Thread.loc c.tc main_arg2) (ix1 q))
    (Finset.sum_congr rfl fun k _ => congrArg (fun z : EReal => (x (ix2 r k) : EReal) * z) (hw k))

theorem arr3 (c : Dev nD) : (dats m 0 c).arrAt 3 cfg0.N
    = prod (C (m (Thread.loc c.tc main_arg0))) (S (m (Thread.loc c.tc main_arg0))) (m (Thread.loc c.tc main_arg1)) (m (Thread.loc c.tc main_arg2)) := by
  refine (dats m 0 c).arrAt_eq_of_after_last 3 t0 (by decide +kernel) _ fun j => ?_
  rw [after0_3, out3, body3]
  generalize prod (C (m (Thread.loc c.tc main_arg0))) (S (m (Thread.loc c.tc main_arg0))) (m (Thread.loc c.tc main_arg1)) (m (Thread.loc c.tc main_arg2)) = x
  refine (cast_eq _ _).trans (congrArg x ?_)
  funext a
  rfl

end Cert.FcRefVal

end
-- ==== Proof.FcEq.lean ====
/-
  The first projection and its reference leave the same arrays.
-/
module

public import proofs.«01_k».proof.Defs
public import proofs.«01_k».proof.Proof.FcArray
public import proofs.«01_k».proof.Proof.FcRef
public import Idealize.ShloMosaic.Lib.StableHlo.RunHlo

@[expose] public section

set_option maxRecDepth 16384

noncomputable section

namespace Cert.FcEq

open Idealize.ShloMosaic Idealize.ShloMosaic.TcCoe Idealize.SL.Sem

theorem algebraic : Cert.algebraic_FcIdeal_FcRefIdeal (hFcIdeal := Cert.FcIdeal.Gen.facts) (hFcRefIdeal := Cert.FcRefIdeal.Gen.facts) := by
  intro m g m' g' _ hargs
  refine ⟨fun c => Cert.FcVal.prod (Cert.FcVal.C (m (Thread.loc c.tc Cert.FcIdeal.main_arg0))) (Cert.FcVal.S (m (Thread.loc c.tc Cert.FcIdeal.main_arg0)))
      (m (Thread.loc c.tc Cert.FcIdeal.main_arg1)) (m (Thread.loc c.tc Cert.FcIdeal.main_arg2)),
    fun c => Cert.FcVal.C (m (Thread.loc c.tc Cert.FcIdeal.main_arg0)), fun c => Cert.FcVal.S (m (Thread.loc c.tc Cert.FcIdeal.main_arg0)), ?_, ?_⟩
  · refine (θ_run _ _ _).mono (fun r h c => ?_) (θ_run_and (Cert.FcIdeal.Body.unchanged (F := Ideal) m g) (Cert.FcIdeal.Body.run_main m g))
    obtain ⟨hk, hf⟩ := h
    exact ⟨((hf c).1 3).trans (Cert.FcVal.arr3 m c), ((hf c).1 4).trans (Cert.FcVal.arr4 m c), ((hf c).1 5).trans (Cert.FcVal.arr5 m c), hk c⟩
  · refine (θ_run _ _ _).mono (fun r h c => ?_) (θ_run_and (Cert.FcRefIdeal.Gen.unchanged (F := Ideal) m' g') (Cert.FcRefIdeal.Gen.run_main m' g'))
    obtain ⟨hk, hf⟩ := h
    obtain ⟨h0, h1, h2⟩ := hargs c
    refine ⟨((hf c).1 3).trans ((Cert.FcRefVal.arr3 m' c).trans ?_), ((hf c).1 4).trans ((Cert.FcRefVal.arr4 m' c).trans ?_),
      ((hf c).1 5).trans ((Cert.FcRefVal.arr5 m' c).trans ?_), hk c⟩
    · rw [h0, h1, h2]
    · rw [h0]
    · rw [h0]

end Cert.FcEq

end
-- ==== Proof.FcBody.lean ====
/-
  The first projection at every point of its grid. The first point quantises the activations and stores codes and
  scales in two output buffers; every point multiplies the codes by its own columns of the weights. The codes and
  scales stay in their buffers until the last point, after which they are written back.
-/
module

public import proofs.«01_k».proof.Proof.Gen.Fc.Frame
public import proofs.«01_k».proof.Proof.Gen.Fc.Skeleton
public import Idealize.ShloMosaic.Lib.Pipeline.TableIdle
public import Idealize.ShloMosaic.Lib.Pipeline.ValueKit
public import Idealize.ShloMosaic.Lib.Pipeline.Frame
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.Fc.Body

open Cert.Fc Cert.Fc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-! ## The two cases of the body -/

theorem hz : (![0, 0] : Fin 2 → Nat) = fun _ => 0 := funext fun a => by fin_cases a <;> rfl

/-- The branch is taken at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- A later point: the product over the codes and scales that the buffers hold. -/
theorem run_B (c : Dev nD) (i : grid0.Coords) (arg1 : Memref sig .tc .vmem S128x12288 .bf16) (harg1 : arg1.IsWhole) (arg2 : Memref sig .tc .vmem S12288x256 .fp8e4m3) (harg2 : arg2.IsWhole)
    (arg3 : Memref sig .tc .vmem S1x256 .f32) (harg3 : arg3.IsWhole) (arg4 : Memref sig .tc .vmem S128x256 .f32) (harg4 : arg4.IsWhole)
    (arg5 : Memref sig .tc .vmem S128x12288 .fp8e4m3) (harg5 : arg5.IsWhole) (arg6 : Memref sig .tc .vmem S128x1 .f32) (harg6 : arg6.IsWhole)
    (hc : ¬ k0_cond1 i = 1#1)
    (x0 : Vec F S128x12288 .bf16) (x1 : Vec F S12288x256 .fp8e4m3) (x2 : Vec F S1x256 .f32) (x4 : Vec F S128x12288 .fp8e4m3) (x5 : Vec F S128x1 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x4 x1 x5 x2) ∗ owns (c : Thread nD τ) arg5 fullShare x4 ∗ owns (c : Thread nD τ) arg6 fullShare x5) -∗ K ⟨⟩))
      ⊢ wp frame (wpE (defs₀ (F := F)) Variants.none c none) E (cc0_fc i arg1 harg1 arg2 harg2 arg3 harg3 arg4 harg4 arg5 harg5 arg6 harg6) K := by
  simp only [cc0_fc_eq_skeleton]; unfold cc0_fc_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    rw [View.readAt_full, View.readAt_full, View.readAt_full, View.readAt_full, harg5.read_unread, harg2.read_unread, harg6.read_unread, harg3.read_unread]
  isplitl [H4]
  · iexists _; isplitr; · ipureintro; exact harg5.read_unread _
    iexact H4
  iexists _; isplitr; · ipureintro; exact harg6.read_unread _
  iexact H5

/-- The first point: codes and scales are stored, then the product over them. -/
theorem run_A (c : Dev nD) (i : grid0.Coords) (arg1 : Memref sig .tc .vmem S128x12288 .bf16) (harg1 : arg1.IsWhole) (arg2 : Memref sig .tc .vmem S12288x256 .fp8e4m3) (harg2 : arg2.IsWhole)
    (arg3 : Memref sig .tc .vmem S1x256 .f32) (harg3 : arg3.IsWhole) (arg4 : Memref sig .tc .vmem S128x256 .f32) (harg4 : arg4.IsWhole)
    (arg5 : Memref sig .tc .vmem S128x12288 .fp8e4m3) (harg5 : arg5.IsWhole) (arg6 : Memref sig .tc .vmem S128x1 .f32) (harg6 : arg6.IsWhole)
    (hc : k0_cond1 i = 1#1)
    (x0 : Vec F S128x12288 .bf16) (x1 : Vec F S12288x256 .fp8e4m3) (x2 : Vec F S1x256 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 (k0_pay3 x0) x1 (k0_pay2 x0) x2) ∗ owns (c : Thread nD τ) arg5 fullShare (k0_pay3 x0) ∗ owns (c : Thread nD τ) arg6 fullShare (k0_pay2 x0)) -∗ K ⟨⟩))
      ⊢ wp frame (wpE (defs₀ (F := F)) Variants.none c none) E (cc0_fc i arg1 harg1 arg2 harg2 arg3 harg3 arg4 harg4 arg5 harg5 arg6 harg6) K := by
  simp only [cc0_fc_eq_skeleton]; unfold cc0_fc_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    unfold run_A.sl.v3 run_A.sl.v7 run_A.sl.H4_1 run_A.sl.H5_1
    refine (View.read_writes_full _ _ _ _ _).trans ?_
    rw [View.readCov_full, View.readCov_full, View.readAt_full, View.readAt_full, View.readAt_full, harg1.read_unread, harg2.read_unread, harg3.read_unread]
  isplitl [H4]
  · iexists _; isplitr
    swap; · iexact H4
    ipureintro
    unfold run_A.sl.H4_1
    refine (View.read_writes_full _ _ _ _ _).trans ?_
    rw [View.readAt_full, harg1.read_unread]
  iexists _; isplitr
  swap; · iexact H5
  ipureintro
  unfold run_A.sl.H5_1
  refine (View.read_writes_full _ _ _ _ _).trans ?_
  rw [View.readAt_full, harg1.read_unread]

/-! ## The proof data -/

/-- The first point. -/
def t0 : Fin cfg0.N := ⟨0, by decide⟩

/-- The codes. -/
def codes (c : Dev nD) : Vec F S128x12288 .fp8e4m3 := k0_pay3 (iblk m c 0 t0)

/-- The scales. -/
def scales (c : Dev nD) : Vec F S128x1 .f32 := k0_pay2 (iblk m c 0 t0)

/-- The block of products that a point leaves. -/
def block (c : Dev nD) (t : Fin cfg0.N) : Vec F S128x256 .f32 := k0_pay4 (codes m c) (iblk m c 1 t) (scales m c) (iblk m c 2 t)

/-- What each buffer holds after a point: the inputs their blocks, the outputs the products, the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
    | ⟨4, _⟩ => codes m c
    | ⟨5, _⟩ => scales m c
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = block m c t := by dsimp only [dats]
theorem after4 (c : Dev nD) (t : Fin cfg0.N) : (dats m 0 c).after 4 t = codes m c := by dsimp only [dats]
theorem after5 (c : Dev nD) (t : Fin cfg0.N) : (dats m 0 c).after 5 t = scales m c := by dsimp only [dats]

theorem before0 (c : Dev nD) (t : Fin cfg0.N) (d) : (dats m 0 c).before 0 t d = iblk m c 0 t := before0_0_of m (dats m 0 c) rfl (after0 m c) t d
theorem before1 (c : Dev nD) (t : Fin cfg0.N) (d) : (dats m 0 c).before 1 t d = iblk m c 1 t := before0_1_of m (dats m 0 c) rfl (after1 m c) t d
theorem before2 (c : Dev nD) (t : Fin cfg0.N) (d) : (dats m 0 c).before 2 t d = iblk m c 2 t := before0_2_of m (dats m 0 c) rfl (after2 m c) t d

/-- After the first point the codes and the scales are in their buffers. -/
theorem fresh4 : ∀ t : Fin 16, t.val ≠ 0 → cfg0.fresh 4 t.val = false := by decide +kernel
theorem fresh5 : ∀ t : Fin 16, t.val ≠ 0 → cfg0.fresh 5 t.val = false := by decide +kernel

theorem before4 (c : Dev nD) (t : Fin cfg0.N) (h : t.val ≠ 0) (d) : (dats m 0 c).before 4 t d = codes m c := by
  rw [(dats m 0 c).before_out_traj 4 rfl (fun _ _ => rfl) (fun t _ _ _ => (after4 m c _).trans (after4 m c _).symm) t.val t rfl d,
    fresh4 t h, if_neg Bool.false_ne_true, after4]
theorem before5 (c : Dev nD) (t : Fin cfg0.N) (h : t.val ≠ 0) (d) : (dats m 0 c).before 5 t d = scales m c := by
  rw [(dats m 0 c).before_out_traj 5 rfl (fun _ _ => rfl) (fun t _ _ _ => (after5 m c _).trans (after5 m c _).symm) t.val t rfl d,
    fresh5 t h, if_neg Bool.false_ne_true, after5]

/-! ## The body at a point -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = (dats m 0 c).Φ t.castSucc from rfl,
    after0, after1, after2, after3, after4, after5]
  by_cases h : t.val = 0
  · obtain rfl : t = t0 := Fin.ext h
    iintro ⟨HP, Ho, ⟨%d0, H0⟩, ⟨%d1, H1⟩, ⟨%d2, H2⟩, ⟨%d3, H3⟩, ⟨%d4, H4⟩, ⟨%d5, H5⟩⟩
    iapply (run_A c (grid0.coords t0) _ _ _ _ _ _ _ _ _ _ _ _ ((hcond t0).mpr h) (iblk m c 0 t0) (iblk m c 1 t0) (iblk m c 2 t0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    iexact H5
  · simp only [before4 m c t h, before5 m c t h]
    iintro ⟨HP, Ho, ⟨%d0, H0⟩, ⟨%d1, H1⟩, ⟨%d2, H2⟩, ⟨%d3, H3⟩, ⟨%d4, H4⟩, ⟨%d5, H5⟩⟩
    iapply (run_B c (grid0.coords t) _ _ _ _ _ _ _ _ _ _ _ _ (fun e => h ((hcond t).mp e)) (iblk m c 0 t) (iblk m c 1 t) (iblk m c 2 t) (codes m c) (scales m c) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s buffers is the body as `bodyAt0` spells it. -/
theorem defs₀_row (t : Fin cfg0.N) : defs₀ (F := F) .tc cfg0.body (cfg0.bodyArgs t (cfg0.slots t)) = bodyAt0 t := by
  unfold defs₀; rw [Defs.onTc_tc]

theorem idle4 : ∀ t : Fin grid0.N, idle0 4 (grid0.coords t) = true → t.val ≠ 0 := by decide +kernel
theorem idle5 : ∀ t : Fin grid0.N, idle0 5 (grid0.coords t) = true → t.val ≠ 0 := by decide +kernel

/-- A buffer that the point does not store into may be handed back at what it held: the codes. -/
theorem leave4 (c : Dev nD) (t : Fin cfg0.N) :
    owns (c : Thread nD τ) (st0_4 t) fullShare ((dats m 0 c).after 4 t) ⊢ (dats m 0 c).leavesExact 4 t := by
  unfold Dat.leavesExact
  cases hi : cfg0.idle 4 (cfg0.grid.coords t)
  · exact Entails.refl _
  · cases (cfg0.win 4).flush t
    · simp only [before4 m c t (idle4 t hi)]
      rw [after4]
      iintro H; iexists (codes m c); iexact H
    · exact Entails.refl _

/-- The same for the scales. -/
theorem leave5 (c : Dev nD) (t : Fin cfg0.N) :
    owns (c : Thread nD τ) (st0_5 t) fullShare ((dats m 0 c).after 5 t) ⊢ (dats m 0 c).leavesExact 5 t := by
  unfold Dat.leavesExact
  cases hi : cfg0.idle 5 (cfg0.grid.coords t)
  · exact Entails.refl _
  · cases (cfg0.win 5).flush t
    · simp only [before5 m c t (idle5 t hi)]
      rw [after5]
      iintro H; iexists (scales m c); iexact H
    · exact Entails.refl _

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono (Entails.refl _) (sep_mono (Entails.refl _) (sep_mono (Entails.refl _) (sep_mono (Entails.refl _)
      (sep_mono (Entails.refl _) (sep_mono (Entails.refl _) (sep_mono (leave4 m c t) (leave5 m c t)))))))

/-! ## The run and the frame -/

-- `θ_run_frame`'s implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with each array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Fc.Body

end
-- ==== Proof.lean ====
/-
  The certificate: each call of the kernel and its reference, put together.
-/
module

public import proofs.«01_k».proof.Defs
public import proofs.«01_k».proof.Proof.Gen.OProj.Frame
public import proofs.«01_k».proof.Proof.Gen.OProjIdeal.Value
public import proofs.«01_k».proof.Proof.Gen.OProjRefIdeal.Run
public import proofs.«01_k».proof.Proof.Gen.OProjRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.GateUp.Frame
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Head.Frame
public import proofs.«01_k».proof.Proof.Gen.HeadIdeal.Frame
public import proofs.«01_k».proof.Proof.Gen.HeadRefIdeal.Frame
public import proofs.«01_k».proof.Proof.Gen.NormQ.Frame
public import proofs.«01_k».proof.Proof.Gen.NormQIdeal.Value
public import proofs.«01_k».proof.Proof.Gen.NormQRefIdeal.Run
public import proofs.«01_k».proof.Proof.Gen.NormQRefIdeal.Read
public import proofs.«01_k».proof.Proof.Gen.Fc.Frame
public import proofs.«01_k».proof.Proof.Gen.FcIdeal.Frame
public import proofs.«01_k».proof.Proof.Gen.FcRefIdeal.Frame
public import proofs.«01_k».proof.Proof.OProjEq
public import proofs.«01_k».proof.Proof.DownEq
public import proofs.«01_k».proof.Proof.GateUpEq
public import proofs.«01_k».proof.Proof.QkvEq
public import proofs.«01_k».proof.Proof.HeadEq
public import proofs.«01_k».proof.Proof.NormQEq
public import proofs.«01_k».proof.Proof.FcEq
public import proofs.«01_k».proof.Proof.FcBody
public import proofs.«01_k».proof.Proof.FcIdealBody
public import Idealize.ShloMosaic.Lib.Bf16PairInverse
public import Idealize.ShloMosaic.Adequacy
public import Idealize.ShloMosaic.Init

@[expose] public section

noncomputable section

namespace Cert.Proof

open Idealize.ShloMosaic Idealize.SL.Sem

/-- The rewrites that read the words as pairs of bfloat16 rows change nothing. -/
theorem packed (b w v : Shape) {r r' p p' : Shape} (h : b.Bitcasts 16 w 32) (h1 : r.Bitcasts 16 r' 32) (h2 : p.Bitcasts 16 p' 32) :
    IdealRules.bf16_pair.BufferStatement b w ∧ IdealRules.bf16_pair.PackStatement v ∧ IdealRules.bf16_pair.Statement b w
      ∧ IdealRules.bf16_pair.Statement r r' ∧ IdealRules.bf16_pair.Statement p p' :=
  ⟨IdealRules.bf16_pair.bufferStatement _ _ h, IdealRules.bf16_pair.packStatement _, IdealRules.bf16_pair.statement _ _ h,
    IdealRules.bf16_pair.statement _ _ h1, IdealRules.bf16_pair.statement _ _ h2⟩

theorem claim : Cert.Claim := ⟨Cert.OProj.Gen.facts, Cert.OProjIdeal.Gen.facts, Cert.OProjRefIdeal.Gen.facts, Cert.Down.Gen.facts, Cert.DownIdeal.Gen.facts, Cert.DownRefIdeal.Gen.facts, Cert.GateUp.Gen.facts, Cert.GateUpIdeal.Gen.facts, Cert.GateUpRefIdeal.Gen.facts, Cert.Qkv.Gen.facts, Cert.QkvIdeal.Gen.facts, Cert.QkvRefIdeal.Gen.facts, Cert.Head.Gen.facts, Cert.HeadIdeal.Gen.facts, Cert.HeadRefIdeal.Gen.facts, Cert.NormQ.Gen.facts, Cert.NormQIdeal.Gen.facts, Cert.NormQRefIdeal.Gen.facts, Cert.Fc.Gen.facts, Cert.FcIdeal.Gen.facts, Cert.FcRefIdeal.Gen.facts,
  fun m ρ _ => Cert.OProj.Gen.frame m ρ, fun m ρ _ => Cert.OProjIdeal.Gen.frame m ρ, Cert.OProjEq.refFrame,
  fun m ρ _ => Cert.Down.Gen.frame m ρ, fun m ρ _ => Cert.DownIdeal.Gen.frame m ρ, Cert.DownEq.refFrame,
  fun m ρ _ => Cert.GateUp.Gen.frame m ρ, fun m ρ _ => Cert.GateUpIdeal.Gen.frame m ρ, Cert.GateUpEq.refFrame,
  fun m ρ _ => Cert.Qkv.Gen.frame m ρ, fun m ρ _ => Cert.QkvIdeal.Gen.frame m ρ, Cert.QkvEq.refFrame,
  fun m ρ _ => Cert.Head.Gen.frame m ρ, fun m ρ _ => Cert.HeadIdeal.Gen.frame m ρ, fun m ρ _ => Cert.HeadRefIdeal.Gen.frame m ρ,
  fun m ρ _ => Cert.NormQ.Gen.frame m ρ, fun m ρ _ => Cert.NormQIdeal.Gen.frame m ρ, Cert.NormQEq.refFrame,
  fun m ρ _ => Cert.Fc.Body.frame m ρ, fun m ρ _ => Cert.FcIdeal.Body.frame m ρ, fun m ρ _ => Cert.FcRefIdeal.Gen.frame m ρ,
  packed _ _ _ (by decide) (by decide) (by decide),
  packed _ _ _ (by decide) (by decide) (by decide),
  packed _ _ _ (by decide) (by decide) (by decide),
  packed _ _ _ (by decide) (by decide) (by decide),
  trivial,
  trivial,
  trivial,
  Cert.OProjEq.algebraic, Cert.DownEq.algebraic, Cert.GateUpEq.algebraic, Cert.QkvEq.algebraic, Cert.HeadEq.algebraic, Cert.NormQEq.algebraic, Cert.FcEq.algebraic⟩

end Cert.Proof

end
